-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Combine [hPre_rows_distinct : Cert.Pre_rows_distinct.Facts] (m : (ℓ : Loc Cert.Combine.nD Cert.Combine.τ Cert.Combine.sig) → Buf (Elt Bits) ℓ) : Prop :=
  ∀ c : Dev Cert.Combine.nD,
    (Cert.Pre_rows_distinct.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3))) = (fun _ => 1#1)

def Pre_CombineIdeal [hPre_rows_distinct : Cert.Pre_rows_distinct.Facts] (m : (ℓ : Loc Cert.CombineIdeal.nD Cert.CombineIdeal.τ Cert.CombineIdeal.sig) → Buf (Elt Ideal) ℓ) : Prop :=
  ∀ c : Dev Cert.CombineIdeal.nD,
    (Cert.Pre_rows_distinct.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_rows_distinct [hPre_rows_distinct : Cert.Pre_rows_distinct.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_distinct.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_Combine [hCombine : Cert.Combine.Facts] [hPre_rows_distinct : Cert.Pre_rows_distinct.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] [hPre_rows_distinct : Cert.Pre_rows_distinct.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_CombineReferenceIdeal_pre_rows_distinct [hCombineReferenceIdeal : Cert.CombineReferenceIdeal.Facts] [hPre_rows_distinct : Cert.Pre_rows_distinct.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_rows_distinct m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v29) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)) (v1 : (c : Dev Cert.AdaIdeal.nD) → Buf (Elt Ideal) ((c.tc : Thread Cert.AdaIdeal.nD Cert.AdaIdeal.τ).loc Cert.AdaIdeal.main_v3_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_v3_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_v6) = v1 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_Combine_CombineIdeal : Prop :=
  True

def algebraic_CombineIdeal_CombineReferenceIdeal [hCombineIdeal : Cert.CombineIdeal.Facts] [hCombineReferenceIdeal : Cert.CombineReferenceIdeal.Facts] [hPre_rows_distinct : Cert.Pre_rows_distinct.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v46) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstReferenceIdeal : Cert.FirstReferenceIdeal.Facts) (hAda : Cert.Ada.Facts) (hAdaIdeal : Cert.AdaIdeal.Facts) (hAdaReferenceIdeal : Cert.AdaReferenceIdeal.Facts) (hCombine : Cert.Combine.Facts) (hCombineIdeal : Cert.CombineIdeal.Facts) (hCombineReferenceIdeal : Cert.CombineReferenceIdeal.Facts) (hPre_rows_distinct : Cert.Pre_rows_distinct.Facts),
    quiescent_Kernel (hKernel := hKernel)
    ∧ quiescent_KernelIdeal (hKernelIdeal := hKernelIdeal)
    ∧ quiescent_ReferenceIdeal (hReferenceIdeal := hReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Combine (hCombine := hCombine) (hPre_rows_distinct := hPre_rows_distinct)
    ∧ quiescent_CombineIdeal (hCombineIdeal := hCombineIdeal) (hPre_rows_distinct := hPre_rows_distinct)
    ∧ quiescent_CombineReferenceIdeal (hCombineReferenceIdeal := hCombineReferenceIdeal)
    ∧ quiescent_CombineReferenceIdeal_pre_rows_distinct (hCombineReferenceIdeal := hCombineReferenceIdeal) (hPre_rows_distinct := hPre_rows_distinct)
    ∧ preserves_Kernel_KernelIdeal
    ∧ algebraic_KernelIdeal_ReferenceIdeal (hKernelIdeal := hKernelIdeal) (hReferenceIdeal := hReferenceIdeal)
    ∧ preserves_First_FirstIdeal
    ∧ algebraic_FirstIdeal_FirstReferenceIdeal (hFirstIdeal := hFirstIdeal) (hFirstReferenceIdeal := hFirstReferenceIdeal)
    ∧ preserves_Ada_AdaIdeal
    ∧ algebraic_AdaIdeal_AdaReferenceIdeal (hAdaIdeal := hAdaIdeal) (hAdaReferenceIdeal := hAdaReferenceIdeal)
    ∧ preserves_Combine_CombineIdeal
    ∧ algebraic_CombineIdeal_CombineReferenceIdeal (hCombineIdeal := hCombineIdeal) (hCombineReferenceIdeal := hCombineReferenceIdeal) (hPre_rows_distinct := hPre_rows_distinct)
-- ==== Pre_rows_distinct.lean ====
abbrev S2x16x1024 : Shape := ⟨3, ![2, 16, 1024]⟩
abbrev S2x16x1024x1024 : Shape := ⟨4, ![2, 16, 1024, 1024]⟩
abbrev S2x8192x1024 : Shape := ⟨3, ![2, 8192, 1024]⟩
abbrev S1024 : Shape := ⟨1, ![1024]⟩
abbrev S_ : Shape := ⟨0, ![]⟩

class Facts : Prop where
  bcast_S2x16x1024_S2x16x1024x1024_0_1_2 : S2x16x1024.BroadcastsInDim S2x16x1024x1024 (![0, 1, 2] : Fin 3 → Fin S2x16x1024x1024.rank)
  bcast_S2x16x1024_S2x16x1024x1024_0_1_3 : S2x16x1024.BroadcastsInDim S2x16x1024x1024 (![0, 1, 3] : Fin 3 → Fin S2x16x1024x1024.rank)
  bcast_S_S2x16x1024x1024 : S_.BroadcastsInDim S2x16x1024x1024 (![] : Fin 0 → Fin S2x16x1024x1024.rank)

variable [Facts]

def fn {F : FTy → Type} [FloatOps F] (main_arg0 : IVec S2x16x1024 32) (main_arg1 : FVec F S2x16x1024x1024 .bf16) (main_arg2 : FVec F S2x8192x1024 .f32) (main_arg3 : FVec F S1024 .f32) : IVec S2x16x1024x1024 1 :=
  let main_v0 : IVec S2x16x1024x1024 32 := broadcastInDim S2x16x1024x1024 ![0, 1, 2] bcast_S2x16x1024_S2x16x1024x1024_0_1_2 main_arg0
  let main_v1 : IVec S2x16x1024x1024 32 := broadcastInDim S2x16x1024x1024 ![0, 1, 3] bcast_S2x16x1024_S2x16x1024x1024_0_1_3 main_arg0
  let main_v2 : IVec S2x16x1024x1024 32 := iotaInDim S2x16x1024x1024 32 2
  let main_v3 : IVec S2x16x1024x1024 32 := iotaInDim S2x16x1024x1024 32 3
  let main_c : IVec S_ 32 := constantI S_ 32 0#32
  let main_v4 : IVec S2x16x1024x1024 32 := broadcastInDim S2x16x1024x1024 ![] bcast_S_S2x16x1024x1024 main_c
  let main_v5 : IVec S2x16x1024x1024 1 := cmpi .sge main_v0 main_v4
  let main_c_0 : IVec S_ 32 := constantI S_ 32 8192#32
  let main_v6 : IVec S2x16x1024x1024 32 := broadcastInDim S2x16x1024x1024 ![] bcast_S_S2x16x1024x1024 main_c_0
  let main_v7 : IVec S2x16x1024x1024 1 := cmpi .slt main_v0 main_v6
  let main_v8 : IVec S2x16x1024x1024 1 := andi main_v5 main_v7
  let main_v9 : IVec S2x16x1024x1024 1 := cmpi .ne main_v0 main_v1
  let main_v10 : IVec S2x16x1024x1024 1 := cmpi .eq main_v2 main_v3
  let main_v11 : IVec S2x16x1024x1024 1 := ori main_v9 main_v10
  let main_v12 : IVec S2x16x1024x1024 1 := andi main_v8 main_v11
  main_v12
-- ==== Kernel.lean ====
abbrev S2x14x1024x512 : Shape := ⟨4, ![2, 14, 1024, 512]⟩
abbrev S2x14x1024x128 : Shape := ⟨4, ![2, 14, 1024, 128]⟩
abbrev S8x6144 : Shape := ⟨2, ![8, 6144]⟩
abbrev S16x1024x2048 : Shape := ⟨3, ![16, 1024, 2048]⟩
abbrev S16x2048x1024 : Shape := ⟨3, ![16, 2048, 1024]⟩
abbrev S2x16x1024x1024 : Shape := ⟨4, ![2, 16, 1024, 1024]⟩
abbrev S2x1x1024x512 : Shape := ⟨4, ![2, 1, 1024, 512]⟩
abbrev S2x1x1024x128 : Shape := ⟨4, ![2, 1, 1024, 128]⟩
abbrev S8x1024 : Shape := ⟨2, ![8, 1024]⟩
abbrev S1x1024x512 : Shape := ⟨3, ![1, 1024, 512]⟩
abbrev S1x512x1024 : Shape := ⟨3, ![1, 512, 1024]⟩
abbrev S2x1x1024x1024 : Shape := ⟨4, ![2, 1, 1024, 1024]⟩
abbrev S2048x1024 : Shape := ⟨2, ![2048, 1024]⟩
abbrev S2048x128 : Shape := ⟨2, ![2048, 128]⟩
abbrev S2x1024x128 : Shape := ⟨3, ![2, 1024, 128]⟩
abbrev S1x128 : Shape := ⟨2, ![1, 128]⟩
abbrev S2048 : Shape := ⟨1, ![2048]⟩
abbrev S2048x1 : Shape := ⟨2, ![2048, 1]⟩
abbrev S1024x512 : Shape := ⟨2, ![1024, 512]⟩
abbrev S512x1024 : Shape := ⟨2, ![512, 1024]⟩
abbrev S1x1x1024x512 : Shape := ⟨4, ![1, 1, 1024, 512]⟩
abbrev S1024x1024 : Shape := ⟨2, ![1024, 1024]⟩
abbrev S1024x128 : Shape := ⟨2, ![1024, 128]⟩
abbrev S1x1024 : Shape := ⟨2, ![1, 1024]⟩
abbrev S1x1x1024x1024 : Shape := ⟨4, ![1, 1, 1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S2x14x1024x512, .i32⟩
  | .hbm, ⟨1, _⟩ => ⟨S2x14x1024x128, .f32⟩
  | .hbm, ⟨2, _⟩ => ⟨S8x6144, .f32⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S2x16x1024x1024, .bf16⟩
  | .hbm, ⟨7, _⟩ => ⟨S2x16x1024x1024, .bf16⟩
  | .local _ .vmem, ⟨0, _⟩ => ⟨S2x1x1024x512, .i32⟩
  | .local _ .vmem, ⟨1, _⟩ => ⟨S2x1x1024x512, .i32⟩
  | .local _ .vmem, ⟨2, _⟩ => ⟨S2x1x1024x128, .f32⟩
  | .local _ .vmem, ⟨3, _⟩ => ⟨S2x1x1024x128, .f32⟩
  | .local _ .vmem, ⟨4, _⟩ => ⟨S8x1024, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x512x1024, .f32⟩
  | .local _ .vmem, ⟨10, _⟩ => ⟨S1x512x1024, .f32⟩
  | .local _ .vmem, ⟨11, _⟩ => ⟨S2x1x1024x1024, .bf16⟩
  | .local _ .vmem, ⟨12, _⟩ => ⟨S2x1x1024x1024, .bf16⟩
  | .local _ .vmem, ⟨13, _⟩ => ⟨S2048x1024, .f32⟩
  | .local _ .vmem, ⟨14, _⟩ => ⟨S2048x128, .f32⟩
  | _, _ => ⟨S2x14x1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![14, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S2x1x1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x14x1024x512 : Shape := ⟨4, ![2, 14, 1024, 512]⟩
abbrev S2x14x1024x128 : Shape := ⟨4, ![2, 14, 1024, 128]⟩
abbrev S8x6144 : Shape := ⟨2, ![8, 6144]⟩
abbrev S16x1024x2048 : Shape := ⟨3, ![16, 1024, 2048]⟩
abbrev S16x2048x1024 : Shape := ⟨3, ![16, 2048, 1024]⟩
abbrev S2x16x1024x1024 : Shape := ⟨4, ![2, 16, 1024, 1024]⟩
abbrev S2x14x1024x512x2 : Shape := ⟨5, ![2, 14, 1024, 512, 2]⟩
abbrev S2x14x1024x2x512 : Shape := ⟨5, ![2, 14, 1024, 2, 512]⟩
abbrev S2x14x1024x1024 : Shape := ⟨4, ![2, 14, 1024, 1024]⟩
abbrev S2x1x1024x1 : Shape := ⟨4, ![2, 1, 1024, 1]⟩
abbrev S2x1024 : Shape := ⟨2, ![2, 1024]⟩
abbrev S2x1x1024 : Shape := ⟨3, ![2, 1, 1024]⟩
abbrev S2x14x1024 : Shape := ⟨3, ![2, 14, 1024]⟩
abbrev S14x1024x2048 : Shape := ⟨3, ![14, 1024, 2048]⟩
abbrev S14x2048x2x1024 : Shape := ⟨4, ![14, 2048, 2, 1024]⟩
abbrev S2x14x1024x2048 : Shape := ⟨4, ![2, 14, 1024, 2048]⟩
abbrev S_ : Shape := ⟨0, ![]⟩
abbrev S14x2048x1024 : Shape := ⟨3, ![14, 2048, 1024]⟩
abbrev S14x1024x2x1024 : Shape := ⟨4, ![14, 1024, 2, 1024]⟩
abbrev S2x14x1024x1 : Shape := ⟨4, ![2, 14, 1024, 1]⟩
abbrev S2x1x1x1024 : Shape := ⟨4, ![2, 1, 1, 1024]⟩
abbrev S2x2x1024x1024 : Shape := ⟨4, ![2, 2, 1024, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x14x1024x512, .i32⟩
  | .hbm, ⟨1, _⟩ => ⟨S2x14x1024x128, .f32⟩
  | .hbm, ⟨2, _⟩ => ⟨S8x6144, .f32⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S2x16x1024x1024, .bf16⟩
  | .hbm, ⟨7, _⟩ => ⟨S2x14x1024x512x2, .bf16⟩
  | .hbm, ⟨8, _⟩ => ⟨S2x14x1024x2x512, .bf16⟩
  | .hbm, ⟨9, _⟩ => ⟨S2x14x1024x1024, .bf16⟩
  | .hbm, ⟨10, _⟩ => ⟨S2x14x1024x1024, .f32⟩
  | .hbm, ⟨11, _⟩ => ⟨S2x1x1024x1, .f32⟩
  | .hbm, ⟨12, _⟩ => ⟨S2x1024, .f32⟩
  | .hbm, ⟨13, _⟩ => ⟨S2x1x1024x1, .f32⟩
  | .hbm, ⟨14, _⟩ => ⟨S2x1024, .f32⟩
  | .hbm, ⟨15, _⟩ => ⟨S2x1x1024x1, .f32⟩
  | .hbm, ⟨16, _⟩ => ⟨S2x1024, .f32⟩
  | .hbm, ⟨17, _⟩ => ⟨S2x1x1024x1, .f32⟩
  | .hbm, ⟨18, _⟩ => ⟨S2x1024, .f32⟩
  | .hbm, ⟨19, _⟩ => ⟨S2x1x1024x1, .f32⟩
  | .hbm, ⟨20, _⟩ => ⟨S2x1024, .f32⟩
  | .hbm, ⟨21, _⟩ => ⟨S2x1x1024x1, .f32⟩
  | .hbm, ⟨22, _⟩ => ⟨S2x1024, .f32⟩
  | .hbm, ⟨23, _⟩ => ⟨S2x1x1024x1, .f32⟩
  | .hbm, ⟨24, _⟩ => ⟨S2x1024, .f32⟩
  | .hbm, ⟨25, _⟩ => ⟨S2x1x1024x1, .f32⟩
  | .hbm, ⟨26, _⟩ => ⟨S2x1024, .f32⟩
  | .hbm, ⟨27, _⟩ => ⟨S2x1x1024x1, .f32⟩
  | .hbm, ⟨28, _⟩ => ⟨S2x1024, .f32⟩
  | .hbm, ⟨29, _⟩ => ⟨S2x1x1024x1, .f32⟩
  | .hbm, ⟨30, _⟩ => ⟨S2x1024, .f32⟩
  | .hbm, ⟨31, _⟩ => ⟨S2x1x1024x1, .f32⟩
  | .hbm, ⟨32, _⟩ => ⟨S2x1024, .f32⟩
  | .hbm, ⟨33, _⟩ => ⟨S2x1x1024x1, .f32⟩
  | .hbm, ⟨34, _⟩ => ⟨S2x1024, .f32⟩
  | .hbm, ⟨35, _⟩ => ⟨S2x1x1024x1, .f32⟩
  | .hbm, ⟨36, _⟩ => ⟨S2x1024, .f32⟩
  | .hbm, ⟨37, _⟩ => ⟨S2x1x1024x1, .f32⟩
  | .hbm, ⟨38, _⟩ => ⟨S2x1024, .f32⟩
  | .hbm, ⟨39, _⟩ => ⟨S2x1x1024, .f32⟩
  | .hbm, ⟨40, _⟩ => ⟨S2x1x1024, .f32⟩
  | .hbm, ⟨41, _⟩ => ⟨S2x1x1024, .f32⟩
  | .hbm, ⟨42, _⟩ => ⟨S2x1x1024, .f32⟩
  | .hbm, ⟨43, _⟩ => ⟨S2x1x1024, .f32⟩
  | .hbm, ⟨44, _⟩ => ⟨S2x1x1024, .f32⟩
  | .hbm, ⟨45, _⟩ => ⟨S2x1x1024, .f32⟩
  | .hbm, ⟨46, _⟩ => ⟨S2x1x1024, .f32⟩
  | .hbm, ⟨47, _⟩ => ⟨S2x1x1024, .f32⟩
  | .hbm, ⟨48, _⟩ => ⟨S2x1x1024, .f32⟩
  | .hbm, ⟨49, _⟩ => ⟨S2x1x1024, .f32⟩
  | .hbm, ⟨50, _⟩ => ⟨S2x1x1024, .f32⟩
  | .hbm, ⟨51, _⟩ => ⟨S2x1x1024, .f32⟩
  | .hbm, ⟨52, _⟩ => ⟨S2x1x1024, .f32⟩
  | .hbm, ⟨53, _⟩ => ⟨S2x14x1024, .f32⟩
  | .hbm, ⟨54, _⟩ => ⟨S2x1024, .f32⟩
  | .hbm, ⟨55, _⟩ => ⟨S14x1024x2048, .f32⟩
  | .hbm, ⟨56, _⟩ => ⟨S14x2048x2x1024, .f32⟩
  | .hbm, ⟨57, _⟩ => ⟨S2x14x1024x2048, .f32⟩
  | .hbm, ⟨58, _⟩ => ⟨S14x1024x2048, .f32⟩
  | .hbm, ⟨59, _⟩ => ⟨S14x2048x2x1024, .f32⟩
  | .hbm, ⟨60, _⟩ => ⟨S2x14x1024x2048, .f32⟩
  | .hbm, ⟨61, _⟩ => ⟨S2x14x1024x2048, .f32⟩
  | .hbm, ⟨62, _⟩ => ⟨S2x14x1024x2048, .f32⟩
  | .hbm, ⟨63, _⟩ => ⟨S_, .f32⟩
  | .hbm, ⟨64, _⟩ => ⟨S2x14x1024x2048, .f32⟩
  | .hbm, ⟨65, _⟩ => ⟨S2x14x1024x2048, .f32⟩
  | .hbm, ⟨66, _⟩ => ⟨S_, .f32⟩
  | .hbm, ⟨67, _⟩ => ⟨S2x14x1024x2048, .f32⟩
  | .hbm, ⟨68, _⟩ => ⟨S2x14x1024x2048, .f32⟩
  | .hbm, ⟨69, _⟩ => ⟨S2x14x1024x2048, .f32⟩
  | .hbm, ⟨70, _⟩ => ⟨S2x14x1024x2048, .f32⟩
  | .hbm, ⟨71, _⟩ => ⟨S14x2048x1024, .f32⟩
  | .hbm, ⟨72, _⟩ => ⟨S14x1024x2x1024, .f32⟩
  | .hbm, ⟨73, _⟩ => ⟨S2x14x1024x1024, .f32⟩
  | .hbm, ⟨74, _⟩ => ⟨S2x14x1024x1, .f32⟩
  | .hbm, ⟨75, _⟩ => ⟨S2x14x1024x1024, .f32⟩
  | .hbm, ⟨76, _⟩ => ⟨S2x14x1024x1024, .f32⟩
  | .hbm, ⟨77, _⟩ => ⟨S2x1x1x1024, .f32⟩
  | .hbm, ⟨78, _⟩ => ⟨S2x14x1024x1024, .f32⟩
  | .hbm, ⟨79, _⟩ => ⟨S2x14x1024x1024, .f32⟩
  | .hbm, ⟨80, _⟩ => ⟨S2x2x1024x1024, .bf16⟩
  | .hbm, ⟨81, _⟩ => ⟨S2x14x1024x1024, .bf16⟩
  | .hbm, ⟨82, _⟩ => ⟨S2x16x1024x1024, .bf16⟩
  | _, _ => ⟨S2x14x1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== First.lean ====
abbrev S2x2x1024x512 : Shape := ⟨4, ![2, 2, 1024, 512]⟩
abbrev S2x2x1024x128 : Shape := ⟨4, ![2, 2, 1024, 128]⟩
abbrev S8x6144 : Shape := ⟨2, ![8, 6144]⟩
abbrev S16x1024x2048 : Shape := ⟨3, ![16, 1024, 2048]⟩
abbrev S16x2048x1024 : Shape := ⟨3, ![16, 2048, 1024]⟩
abbrev S2x16x1024x1024 : Shape := ⟨4, ![2, 16, 1024, 1024]⟩
abbrev S2x1x1024x512 : Shape := ⟨4, ![2, 1, 1024, 512]⟩
abbrev S2x1x1024x128 : Shape := ⟨4, ![2, 1, 1024, 128]⟩
abbrev S8x1024 : Shape := ⟨2, ![8, 1024]⟩
abbrev S1x1024x512 : Shape := ⟨3, ![1, 1024, 512]⟩
abbrev S1x512x1024 : Shape := ⟨3, ![1, 512, 1024]⟩
abbrev S2x1x1024x1024 : Shape := ⟨4, ![2, 1, 1024, 1024]⟩
abbrev S2048x1024 : Shape := ⟨2, ![2048, 1024]⟩
abbrev S2048x128 : Shape := ⟨2, ![2048, 128]⟩
abbrev S2x1024x128 : Shape := ⟨3, ![2, 1024, 128]⟩
abbrev S1x128 : Shape := ⟨2, ![1, 128]⟩
abbrev S2048 : Shape := ⟨1, ![2048]⟩
abbrev S2048x1 : Shape := ⟨2, ![2048, 1]⟩
abbrev S1024x512 : Shape := ⟨2, ![1024, 512]⟩
abbrev S512x1024 : Shape := ⟨2, ![512, 1024]⟩
abbrev S1x1x1024x512 : Shape := ⟨4, ![1, 1, 1024, 512]⟩
abbrev S1024x1024 : Shape := ⟨2, ![1024, 1024]⟩
abbrev S1024x128 : Shape := ⟨2, ![1024, 128]⟩
abbrev S1x1024 : Shape := ⟨2, ![1, 1024]⟩
abbrev S1x1x1024x1024 : Shape := ⟨4, ![1, 1, 1024, 1024]⟩
abbrev S2x2x1024x1024 : Shape := ⟨4, ![2, 2, 1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S2x2x1024x512, .i32⟩
  | .hbm, ⟨1, _⟩ => ⟨S2x2x1024x128, .f32⟩
  | .hbm, ⟨2, _⟩ => ⟨S8x6144, .f32⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S2x16x1024x1024, .bf16⟩
  | .hbm, ⟨7, _⟩ => ⟨S2x2x1024x1024, .bf16⟩
  | .local _ .vmem, ⟨0, _⟩ => ⟨S2x1x1024x512, .i32⟩
  | .local _ .vmem, ⟨1, _⟩ => ⟨S2x1x1024x512, .i32⟩
  | .local _ .vmem, ⟨2, _⟩ => ⟨S2x1x1024x128, .f32⟩
  | .local _ .vmem, ⟨3, _⟩ => ⟨S2x1x1024x128, .f32⟩
  | .local _ .vmem, ⟨4, _⟩ => ⟨S8x1024, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x512x1024, .f32⟩
  | .local _ .vmem, ⟨10, _⟩ => ⟨S1x512x1024, .f32⟩
  | .local _ .vmem, ⟨11, _⟩ => ⟨S2x1x1024x1024, .bf16⟩
  | .local _ .vmem, ⟨12, _⟩ => ⟨S2x1x1024x1024, .bf16⟩
  | .local _ .vmem, ⟨13, _⟩ => ⟨S2048x1024, .f32⟩
  | .local _ .vmem, ⟨14, _⟩ => ⟨S2048x128, .f32⟩
  | _, _ => ⟨S2x2x1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, v0.toNat, c0_i32_1.toNat, c0_i32_2.toNat]

abbrev stage0_0 : Fin 2 → Memref sig .tc .vmem S2x1x1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FirstReferenceIdeal.lean ====
abbrev S2x2x1024x512 : Shape := ⟨4, ![2, 2, 1024, 512]⟩
abbrev S2x2x1024x128 : Shape := ⟨4, ![2, 2, 1024, 128]⟩
abbrev S8x6144 : Shape := ⟨2, ![8, 6144]⟩
abbrev S16x1024x2048 : Shape := ⟨3, ![16, 1024, 2048]⟩
abbrev S16x2048x1024 : Shape := ⟨3, ![16, 2048, 1024]⟩
abbrev S2x2x1024x512x2 : Shape := ⟨5, ![2, 2, 1024, 512, 2]⟩
abbrev S2x2x1024x2x512 : Shape := ⟨5, ![2, 2, 1024, 2, 512]⟩
abbrev S2x2x1024x1024 : Shape := ⟨4, ![2, 2, 1024, 1024]⟩
abbrev S2x1x1024x1 : Shape := ⟨4, ![2, 1, 1024, 1]⟩
abbrev S2x1024 : Shape := ⟨2, ![2, 1024]⟩
abbrev S2x1x1024 : Shape := ⟨3, ![2, 1, 1024]⟩
abbrev S2x2x1024 : Shape := ⟨3, ![2, 2, 1024]⟩
abbrev S2x1024x2048 : Shape := ⟨3, ![2, 1024, 2048]⟩
abbrev S2x2048x2x1024 : Shape := ⟨4, ![2, 2048, 2, 1024]⟩
abbrev S2x2x1024x2048 : Shape := ⟨4, ![2, 2, 1024, 2048]⟩
abbrev S_ : Shape := ⟨0, ![]⟩
abbrev S2x2048x1024 : Shape := ⟨3, ![2, 2048, 1024]⟩
abbrev S2x1024x2x1024 : Shape := ⟨4, ![2, 1024, 2, 1024]⟩
abbrev S2x2x1024x1 : Shape := ⟨4, ![2, 2, 1024, 1]⟩
abbrev S2x1x1x1024 : Shape := ⟨4, ![2, 1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x2x1024x512, .i32⟩
  | .hbm, ⟨1, _⟩ => ⟨S2x2x1024x128, .f32⟩
  | .hbm, ⟨2, _⟩ => ⟨S8x6144, .f32⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S2x2x1024x512x2, .bf16⟩
  | .hbm, ⟨7, _⟩ => ⟨S2x2x1024x2x512, .bf16⟩
  | .hbm, ⟨8, _⟩ => ⟨S2x2x1024x1024, .bf16⟩
  | .hbm, ⟨9, _⟩ => ⟨S2x2x1024x1024, .f32⟩
  | .hbm, ⟨10, _⟩ => ⟨S2x1x1024x1, .f32⟩
  | .hbm, ⟨11, _⟩ => ⟨S2x1024, .f32⟩
  | .hbm, ⟨12, _⟩ => ⟨S2x1x1024x1, .f32⟩
  | .hbm, ⟨13, _⟩ => ⟨S2x1024, .f32⟩
  | .hbm, ⟨14, _⟩ => ⟨S2x1x1024, .f32⟩
  | .hbm, ⟨15, _⟩ => ⟨S2x1x1024, .f32⟩
  | .hbm, ⟨16, _⟩ => ⟨S2x2x1024, .f32⟩
  | .hbm, ⟨17, _⟩ => ⟨S2x1024, .f32⟩
  | .hbm, ⟨18, _⟩ => ⟨S2x1024x2048, .f32⟩
  | .hbm, ⟨19, _⟩ => ⟨S2x2048x2x1024, .f32⟩
  | .hbm, ⟨20, _⟩ => ⟨S2x2x1024x2048, .f32⟩
  | .hbm, ⟨21, _⟩ => ⟨S2x1024x2048, .f32⟩
  | .hbm, ⟨22, _⟩ => ⟨S2x2048x2x1024, .f32⟩
  | .hbm, ⟨23, _⟩ => ⟨S2x2x1024x2048, .f32⟩
  | .hbm, ⟨24, _⟩ => ⟨S2x2x1024x2048, .f32⟩
  | .hbm, ⟨25, _⟩ => ⟨S2x2x1024x2048, .f32⟩
  | .hbm, ⟨26, _⟩ => ⟨S_, .f32⟩
  | .hbm, ⟨27, _⟩ => ⟨S2x2x1024x2048, .f32⟩
  | .hbm, ⟨28, _⟩ => ⟨S2x2x1024x2048, .f32⟩
  | .hbm, ⟨29, _⟩ => ⟨S_, .f32⟩
  | .hbm, ⟨30, _⟩ => ⟨S2x2x1024x2048, .f32⟩
  | .hbm, ⟨31, _⟩ => ⟨S2x2x1024x2048, .f32⟩
  | .hbm, ⟨32, _⟩ => ⟨S2x2x1024x2048, .f32⟩
  | .hbm, ⟨33, _⟩ => ⟨S2x2x1024x2048, .f32⟩
  | .hbm, ⟨34, _⟩ => ⟨S2x2048x1024, .f32⟩
  | .hbm, ⟨35, _⟩ => ⟨S2x1024x2x1024, .f32⟩
  | .hbm, ⟨36, _⟩ => ⟨S2x2x1024x1024, .f32⟩
  | .hbm, ⟨37, _⟩ => ⟨S2x2x1024x1, .f32⟩
  | .hbm, ⟨38, _⟩ => ⟨S2x2x1024x1024, .f32⟩
  | .hbm, ⟨39, _⟩ => ⟨S2x2x1024x1024, .f32⟩
  | .hbm, ⟨40, _⟩ => ⟨S2x1x1x1024, .f32⟩
  | .hbm, ⟨41, _⟩ => ⟨S2x2x1024x1024, .f32⟩
  | .hbm, ⟨42, _⟩ => ⟨S2x2x1024x1024, .f32⟩
  | .hbm, ⟨43, _⟩ => ⟨S2x2x1024x1024, .bf16⟩
  | _, _ => ⟨S2x2x1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Ada.lean ====
abbrev S2x1024 : Shape := ⟨2, ![2, 1024]⟩
abbrev S1024x6144 : Shape := ⟨2, ![1024, 6144]⟩
abbrev S6144 : Shape := ⟨1, ![6144]⟩
abbrev S1024x5632 : Shape := ⟨2, ![1024, 5632]⟩
abbrev S1024x2 : Shape := ⟨2, ![1024, 2]⟩
abbrev S_ : Shape := ⟨0, ![]⟩
abbrev S1024x128 : Shape := ⟨2, ![1024, 128]⟩
abbrev S1x6144 : Shape := ⟨2, ![1, 6144]⟩
abbrev S8x6144 : Shape := ⟨2, ![8, 6144]⟩
abbrev S1024x3584 : Shape := ⟨2, ![1024, 3584]⟩
abbrev S1024x768 : Shape := ⟨2, ![1024, 768]⟩
abbrev S1x768 : Shape := ⟨2, ![1, 768]⟩
abbrev S128x512 : Shape := ⟨2, ![128, 512]⟩
abbrev S8x768 : Shape := ⟨2, ![8, 768]⟩
abbrev S128x3584 : Shape := ⟨2, ![128, 3584]⟩
abbrev S1024x1 : Shape := ⟨2, ![1024, 1]⟩
abbrev S768 : Shape := ⟨1, ![768]⟩
abbrev S6x768 : Shape := ⟨2, ![6, 768]⟩
abbrev S2x6144 : Shape := ⟨2, ![2, 6144]⟩

abbrev nBuf : Space → Nat
  | .hbm => 12
  | .vmem => 23
  | .smem => 0
  | _ => 0

abbrev bufTy : (tb : Table) → Fin (tcTables nBuf tb) → BufTy
  | .hbm, ⟨0, _⟩ => ⟨S2x1024, .f32⟩
  | .hbm, ⟨1, _⟩ => ⟨S1024x6144, .f32⟩
  | .hbm, ⟨2, _⟩ => ⟨S6144, .f32⟩
  | .hbm, ⟨3, _⟩ => ⟨S1024x5632, .f32⟩
  | .hbm, ⟨4, _⟩ => ⟨S1024x2, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1x6144, .f32⟩
  | .hbm, ⟨9, _⟩ => ⟨S8x6144, .f32⟩
  | .hbm, ⟨10, _⟩ => ⟨S1024x3584, .bf16⟩
  | .hbm, ⟨11, _⟩ => ⟨S2x6144, .f32⟩
  | .local _ .vmem, ⟨0, _⟩ => ⟨S1024x128, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S8x768, .f32⟩
  | .local _ .vmem, ⟨20, _⟩ => ⟨S8x768, .f32⟩
  | .local _ .vmem, ⟨21, _⟩ => ⟨S128x3584, .bf16⟩
  | .local _ .vmem, ⟨22, _⟩ => ⟨S128x3584, .bf16⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x3584 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AdaReferenceIdeal.lean ====
abbrev S2x1024 : Shape := ⟨2, ![2, 1024]⟩
abbrev S1024x6144 : Shape := ⟨2, ![1024, 6144]⟩
abbrev S6144 : Shape := ⟨1, ![6144]⟩
abbrev S1024x5632 : Shape := ⟨2, ![1024, 5632]⟩
abbrev S_ : Shape := ⟨0, ![]⟩
abbrev S2x6144 : Shape := ⟨2, ![2, 6144]⟩
abbrev S1x6144 : Shape := ⟨2, ![1, 6144]⟩
abbrev S1024x3584 : Shape := ⟨2, ![1024, 3584]⟩

abbrev nBuf : Space → Nat
  | .hbm => 19
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024x6144, .f32⟩
  | .hbm, ⟨2, _⟩ => ⟨S6144, .f32⟩
  | .hbm, ⟨3, _⟩ => ⟨S1024x5632, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x6144, .f32⟩
  | .hbm, ⟨14, _⟩ => ⟨S1x6144, .f32⟩
  | .hbm, ⟨15, _⟩ => ⟨S2x6144, .f32⟩
  | .hbm, ⟨16, _⟩ => ⟨S2x6144, .f32⟩
  | .hbm, ⟨17, _⟩ => ⟨S1024x3584, .f32⟩
  | .hbm, ⟨18, _⟩ => ⟨S1024x3584, .bf16⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Combine.lean ====
abbrev S2x16x1024 : Shape := ⟨3, ![2, 16, 1024]⟩
abbrev S2x16x1024x1024 : Shape := ⟨4, ![2, 16, 1024, 1024]⟩
abbrev S2x8192x1024 : Shape := ⟨3, ![2, 8192, 1024]⟩
abbrev S1024 : Shape := ⟨1, ![1024]⟩
abbrev S2x16x1x1024 : Shape := ⟨4, ![2, 16, 1, 1024]⟩
abbrev S1x1024 : Shape := ⟨2, ![1, 1024]⟩
abbrev S1x1x1x1024 : Shape := ⟨4, ![1, 1, 1, 1024]⟩
abbrev S1x1x1024x1024 : Shape := ⟨4, ![1, 1, 1024, 1024]⟩
abbrev S8192x1024 : Shape := ⟨2, ![8192, 1024]⟩
abbrev S2 : Shape := ⟨1, ![2]⟩
abbrev S1 : Shape := ⟨1, ![1]⟩
abbrev S_ : Shape := ⟨0, ![]⟩
abbrev S1x8192x1024 : Shape := ⟨3, ![1, 8192, 1024]⟩
abbrev S1x1x16x1024 : Shape := ⟨4, ![1, 1, 16, 1024]⟩
abbrev S16x1024 : Shape := ⟨2, ![16, 1024]⟩
abbrev S1x1x1x1 : Shape := ⟨4, ![1, 1, 1, 1]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 7
  | .vmem => 4
  | .smem => 2
  | _ => 0

abbrev bufTy : (tb : Table) → Fin (tcTables nBuf tb) → BufTy
  | .hbm, ⟨0, _⟩ => ⟨S2x16x1024, .i32⟩
  | .hbm, ⟨1, _⟩ => ⟨S2x16x1024x1024, .bf16⟩
  | .hbm, ⟨2, _⟩ => ⟨S2x8192x1024, .f32⟩
  | .hbm, ⟨3, _⟩ => ⟨S1024, .f32⟩
  | .hbm, ⟨4, _⟩ => ⟨S2x16x1x1024, .i32⟩
  | .hbm, ⟨5, _⟩ => ⟨S1x1024, .f32⟩
  | .hbm, ⟨6, _⟩ => ⟨S2x8192x1024, .f32⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1024, .f32⟩
  | .local _ .vmem, ⟨3, _⟩ => ⟨S8192x1024, .f32⟩
  | .local _ .smem, ⟨0, _⟩ => ⟨S1x1x1x1024, .i32⟩
  | .local _ .smem, ⟨1, _⟩ => ⟨S1x1x1x1024, .i32⟩
  | _, _ => ⟨S2x16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_scratch0 : Ref sig .tc := ⟨.vmem, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_5 : BitVec 32 := 0#32
  let c0_i32_6 : BitVec 32 := 0#32
  ![arg0.toNat, 0, 0]
@[reducible] def k0_t1_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  v7
def k0_off2 (k0_t1 : Fin k0_t1_loop.trips) : Fin 4 → Nat :=
  let c0 : Index := 0#32
  let c0_4 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v9 : Index := Scalar.indexCast v8
  let c0_5 : Index := 0#32
  ![0, 0, v9.toNat, 0]
def k0_off3 (k0_t1 : Fin k0_t1_loop.trips) (c0_i32_6 : BitVec 32) : Fin 4 → Nat :=
  let c0_7 : Index := 0#32
  let c0_8 : Index := 0#32
  let c0_9 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v13 : BitVec 32 := Scalar.addi v8 c0_i32_6
  let v14 : Index := Scalar.indexCast v13
  ![0, 0, 0, v14.toNat]
def k0_off4 (v15 : BitVec 32) : Fin 2 → Nat :=
  let v37 : Index := Scalar.indexCast v15
  let c0_32 : Index := 0#32
  ![v37.toNat, 0]

def k0_off5 (v18 : BitVec 32) : Fin 2 → Nat :=
  let v41 : Index := Scalar.indexCast v18
  let c0_33 : Index := 0#32
  ![v41.toNat, 0]

def k0_off6 (v21 : BitVec 32) : Fin 2 → Nat :=
  let v45 : Index := Scalar.indexCast v21
  let c0_34 : Index := 0#32
  ![v45.toNat, 0]

def k0_off7 (v24 : BitVec 32) : Fin 2 → Nat :=
  let v49 : Index := Scalar.indexCast v24
  let c0_35 : Index := 0#32
  ![v49.toNat, 0]

def k0_off8 (v27 : BitVec 32) : Fin 2 → Nat :=
  let v53 : Index := Scalar.indexCast v27
  let c0_36 : Index := 0#32
  ![v53.toNat, 0]

def k0_off9 (v30 : BitVec 32) : Fin 2 → Nat :=
  let v57 : Index := Scalar.indexCast v30
  let c0_37 : Index := 0#32
  ![v57.toNat, 0]

def k0_off10 (v33 : BitVec 32) : Fin 2 → Nat :=
  let v61 : Index := Scalar.indexCast v33
  let c0_38 : Index := 0#32
  ![v61.toNat, 0]

def k0_off11 (v36 : BitVec 32) : Fin 2 → Nat :=
  let v65 : Index := Scalar.indexCast v36
  let c0_39 : Index := 0#32
  ![v65.toNat, 0]

def k0_chk8 (v36 : BitVec 32) : Prop :=
  (∀ a, (k0_off11 v36) a + S1x1024.size a ≤ S8192x1024.size a)
theorem k0_off11_inb : ∀ (v36 : BitVec 32) (k0_hw8 : k0_chk8 v36), ∀ a, (k0_off11 v36) a + S1x1024.size a ≤ S8192x1024.size a := fun v36 k0_hw8 => k0_hw8

def k0_off12 (v15 : BitVec 32) : Fin 2 → Nat :=
  let v69 : Index := Scalar.indexCast v15
  let c0_40 : Index := 0#32
  ![v69.toNat, 0]

def k0_chk1 (v15 : BitVec 32) : Prop :=
  (∀ a, (k0_off4 v15) a + S1x1024.size a ≤ S8192x1024.size a) ∧
  (∀ a, (k0_off12 v15) a + S1x1024.size a ≤ S8192x1024.size a)
theorem k0_off4_inb : ∀ (v15 : BitVec 32) (k0_hw1 : k0_chk1 v15), ∀ a, (k0_off4 v15) a + S1x1024.size a ≤ S8192x1024.size a := fun v15 k0_hw1 => k0_hw1.1
theorem k0_off12_inb : ∀ (v15 : BitVec 32) (k0_hw1 : k0_chk1 v15), ∀ a, (k0_off12 v15) a + S1x1024.size a ≤ S8192x1024.size a := fun v15 k0_hw1 => k0_hw1.2

def k0_off13 (v18 : BitVec 32) : Fin 2 → Nat :=
  let v73 : Index := Scalar.indexCast v18
  let c0_41 : Index := 0#32
  ![v73.toNat, 0]

def k0_chk2 (v18 : BitVec 32) : Prop :=
  (∀ a, (k0_off5 v18) a + S1x1024.size a ≤ S8192x1024.size a) ∧
  (∀ a, (k0_off13 v18) a + S1x1024.size a ≤ S8192x1024.size a)
theorem k0_off5_inb : ∀ (v18 : BitVec 32) (k0_hw2 : k0_chk2 v18), ∀ a, (k0_off5 v18) a + S1x1024.size a ≤ S8192x1024.size a := fun v18 k0_hw2 => k0_hw2.1
theorem k0_off13_inb : ∀ (v18 : BitVec 32) (k0_hw2 : k0_chk2 v18), ∀ a, (k0_off13 v18) a + S1x1024.size a ≤ S8192x1024.size a := fun v18 k0_hw2 => k0_hw2.2

def k0_off14 (v21 : BitVec 32) : Fin 2 → Nat :=
  let v77 : Index := Scalar.indexCast v21
  let c0_42 : Index := 0#32
  ![v77.toNat, 0]

def k0_chk3 (v21 : BitVec 32) : Prop :=
  (∀ a, (k0_off6 v21) a + S1x1024.size a ≤ S8192x1024.size a) ∧
  (∀ a, (k0_off14 v21) a + S1x1024.size a ≤ S8192x1024.size a)
theorem k0_off6_inb : ∀ (v21 : BitVec 32) (k0_hw3 : k0_chk3 v21), ∀ a, (k0_off6 v21) a + S1x1024.size a ≤ S8192x1024.size a := fun v21 k0_hw3 => k0_hw3.1
theorem k0_off14_inb : ∀ (v21 : BitVec 32) (k0_hw3 : k0_chk3 v21), ∀ a, (k0_off14 v21) a + S1x1024.size a ≤ S8192x1024.size a := fun v21 k0_hw3 => k0_hw3.2

def k0_off15 (v24 : BitVec 32) : Fin 2 → Nat :=
  let v81 : Index := Scalar.indexCast v24
  let c0_43 : Index := 0#32
  ![v81.toNat, 0]

def k0_chk4 (v24 : BitVec 32) : Prop :=
  (∀ a, (k0_off7 v24) a + S1x1024.size a ≤ S8192x1024.size a) ∧
  (∀ a, (k0_off15 v24) a + S1x1024.size a ≤ S8192x1024.size a)
theorem k0_off7_inb : ∀ (v24 : BitVec 32) (k0_hw4 : k0_chk4 v24), ∀ a, (k0_off7 v24) a + S1x1024.size a ≤ S8192x1024.size a := fun v24 k0_hw4 => k0_hw4.1
theorem k0_off15_inb : ∀ (v24 : BitVec 32) (k0_hw4 : k0_chk4 v24), ∀ a, (k0_off15 v24) a + S1x1024.size a ≤ S8192x1024.size a := fun v24 k0_hw4 => k0_hw4.2

def k0_off16 (v27 : BitVec 32) : Fin 2 → Nat :=
  let v85 : Index := Scalar.indexCast v27
  let c0_44 : Index := 0#32
  ![v85.toNat, 0]

def k0_chk5 (v27 : BitVec 32) : Prop :=
  (∀ a, (k0_off8 v27) a + S1x1024.size a ≤ S8192x1024.size a) ∧
  (∀ a, (k0_off16 v27) a + S1x1024.size a ≤ S8192x1024.size a)
theorem k0_off8_inb : ∀ (v27 : BitVec 32) (k0_hw5 : k0_chk5 v27), ∀ a, (k0_off8 v27) a + S1x1024.size a ≤ S8192x1024.size a := fun v27 k0_hw5 => k0_hw5.1
theorem k0_off16_inb : ∀ (v27 : BitVec 32) (k0_hw5 : k0_chk5 v27), ∀ a, (k0_off16 v27) a + S1x1024.size a ≤ S8192x1024.size a := fun v27 k0_hw5 => k0_hw5.2

def k0_off17 (v30 : BitVec 32) : Fin 2 → Nat :=
  let v89 : Index := Scalar.indexCast v30
  let c0_45 : Index := 0#32
  ![v89.toNat, 0]

def k0_chk6 (v30 : BitVec 32) : Prop :=
  (∀ a, (k0_off9 v30) a + S1x1024.size a ≤ S8192x1024.size a) ∧
  (∀ a, (k0_off17 v30) a + S1x1024.size a ≤ S8192x1024.size a)
theorem k0_off9_inb : ∀ (v30 : BitVec 32) (k0_hw6 : k0_chk6 v30), ∀ a, (k0_off9 v30) a + S1x1024.size a ≤ S8192x1024.size a := fun v30 k0_hw6 => k0_hw6.1
theorem k0_off17_inb : ∀ (v30 : BitVec 32) (k0_hw6 : k0_chk6 v30), ∀ a, (k0_off17 v30) a + S1x1024.size a ≤ S8192x1024.size a := fun v30 k0_hw6 => k0_hw6.2

def k0_off18 (v33 : BitVec 32) : Fin 2 → Nat :=
  let v93 : Index := Scalar.indexCast v33
  let c0_46 : Index := 0#32
  ![v93.toNat, 0]

def k0_chk7 (v33 : BitVec 32) : Prop :=
  (∀ a, (k0_off10 v33) a + S1x1024.size a ≤ S8192x1024.size a) ∧
  (∀ a, (k0_off18 v33) a + S1x1024.size a ≤ S8192x1024.size a)
theorem k0_off10_inb : ∀ (v33 : BitVec 32) (k0_hw7 : k0_chk7 v33), ∀ a, (k0_off10 v33) a + S1x1024.size a ≤ S8192x1024.size a := fun v33 k0_hw7 => k0_hw7.1
theorem k0_off18_inb : ∀ (v33 : BitVec 32) (k0_hw7 : k0_chk7 v33), ∀ a, (k0_off18 v33) a + S1x1024.size a ≤ S8192x1024.size a := fun v33 k0_hw7 => k0_hw7.2

def k0_off19 (k0_t1 : Fin k0_t1_loop.trips) (c8_i32 : BitVec 32) : Fin 4 → Nat :=
  let c0_48 : Index := 0#32
  let c0_49 : Index := 0#32
  let c0_50 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v101 : BitVec 32 := Scalar.addi v8 c8_i32
  let v102 : Index := Scalar.indexCast v101
  ![0, 0, 0, v102.toNat]
def k0_off20 (v103 : BitVec 32) : Fin 2 → Nat :=
  let v125 : Index := Scalar.indexCast v103
  let c0_73 : Index := 0#32
  ![v125.toNat, 0]

def k0_off21 (v106 : BitVec 32) : Fin 2 → Nat :=
  let v129 : Index := Scalar.indexCast v106
  let c0_74 : Index := 0#32
  ![v129.toNat, 0]

def k0_off22 (v109 : BitVec 32) : Fin 2 → Nat :=
  let v133 : Index := Scalar.indexCast v109
  let c0_75 : Index := 0#32
  ![v133.toNat, 0]

def k0_off23 (v112 : BitVec 32) : Fin 2 → Nat :=
  let v137 : Index := Scalar.indexCast v112
  let c0_76 : Index := 0#32
  ![v137.toNat, 0]

def k0_off24 (v115 : BitVec 32) : Fin 2 → Nat :=
  let v141 : Index := Scalar.indexCast v115
  let c0_77 : Index := 0#32
  ![v141.toNat, 0]

def k0_off25 (v118 : BitVec 32) : Fin 2 → Nat :=
  let v145 : Index := Scalar.indexCast v118
  let c0_78 : Index := 0#32
  ![v145.toNat, 0]

def k0_off26 (v121 : BitVec 32) : Fin 2 → Nat :=
  let v149 : Index := Scalar.indexCast v121
  let c0_79 : Index := 0#32
  ![v149.toNat, 0]

def k0_off27 (v124 : BitVec 32) : Fin 2 → Nat :=
  let v153 : Index := Scalar.indexCast v124
  let c0_80 : Index := 0#32
  ![v153.toNat, 0]

def k0_chk16 (v124 : BitVec 32) : Prop :=
  (∀ a, (k0_off27 v124) a + S1x1024.size a ≤ S8192x1024.size a)
theorem k0_off27_inb : ∀ (v124 : BitVec 32) (k0_hw16 : k0_chk16 v124), ∀ a, (k0_off27 v124) a + S1x1024.size a ≤ S8192x1024.size a := fun v124 k0_hw16 => k0_hw16

def k0_off28 (v103 : BitVec 32) : Fin 2 → Nat :=
  let v157 : Index := Scalar.indexCast v103
  let c0_81 : Index := 0#32
  ![v157.toNat, 0]

def k0_chk9 (v103 : BitVec 32) : Prop :=
  (∀ a, (k0_off20 v103) a + S1x1024.size a ≤ S8192x1024.size a) ∧
  (∀ a, (k0_off28 v103) a + S1x1024.size a ≤ S8192x1024.size a)
theorem k0_off20_inb : ∀ (v103 : BitVec 32) (k0_hw9 : k0_chk9 v103), ∀ a, (k0_off20 v103) a + S1x1024.size a ≤ S8192x1024.size a := fun v103 k0_hw9 => k0_hw9.1
theorem k0_off28_inb : ∀ (v103 : BitVec 32) (k0_hw9 : k0_chk9 v103), ∀ a, (k0_off28 v103) a + S1x1024.size a ≤ S8192x1024.size a := fun v103 k0_hw9 => k0_hw9.2

def k0_off29 (v106 : BitVec 32) : Fin 2 → Nat :=
  let v161 : Index := Scalar.indexCast v106
  let c0_82 : Index := 0#32
  ![v161.toNat, 0]

def k0_chk10 (v106 : BitVec 32) : Prop :=
  (∀ a, (k0_off21 v106) a + S1x1024.size a ≤ S8192x1024.size a) ∧
  (∀ a, (k0_off29 v106) a + S1x1024.size a ≤ S8192x1024.size a)
theorem k0_off21_inb : ∀ (v106 : BitVec 32) (k0_hw10 : k0_chk10 v106), ∀ a, (k0_off21 v106) a + S1x1024.size a ≤ S8192x1024.size a := fun v106 k0_hw10 => k0_hw10.1
theorem k0_off29_inb : ∀ (v106 : BitVec 32) (k0_hw10 : k0_chk10 v106), ∀ a, (k0_off29 v106) a + S1x1024.size a ≤ S8192x1024.size a := fun v106 k0_hw10 => k0_hw10.2

def k0_off30 (v109 : BitVec 32) : Fin 2 → Nat :=
  let v165 : Index := Scalar.indexCast v109
  let c0_83 : Index := 0#32
  ![v165.toNat, 0]

def k0_chk11 (v109 : BitVec 32) : Prop :=
  (∀ a, (k0_off22 v109) a + S1x1024.size a ≤ S8192x1024.size a) ∧
  (∀ a, (k0_off30 v109) a + S1x1024.size a ≤ S8192x1024.size a)
theorem k0_off22_inb : ∀ (v109 : BitVec 32) (k0_hw11 : k0_chk11 v109), ∀ a, (k0_off22 v109) a + S1x1024.size a ≤ S8192x1024.size a := fun v109 k0_hw11 => k0_hw11.1
theorem k0_off30_inb : ∀ (v109 : BitVec 32) (k0_hw11 : k0_chk11 v109), ∀ a, (k0_off30 v109) a + S1x1024.size a ≤ S8192x1024.size a := fun v109 k0_hw11 => k0_hw11.2

def k0_off31 (v112 : BitVec 32) : Fin 2 → Nat :=
  let v169 : Index := Scalar.indexCast v112
  let c0_84 : Index := 0#32
  ![v169.toNat, 0]

def k0_chk12 (v112 : BitVec 32) : Prop :=
  (∀ a, (k0_off23 v112) a + S1x1024.size a ≤ S8192x1024.size a) ∧
  (∀ a, (k0_off31 v112) a + S1x1024.size a ≤ S8192x1024.size a)
theorem k0_off23_inb : ∀ (v112 : BitVec 32) (k0_hw12 : k0_chk12 v112), ∀ a, (k0_off23 v112) a + S1x1024.size a ≤ S8192x1024.size a := fun v112 k0_hw12 => k0_hw12.1
theorem k0_off31_inb : ∀ (v112 : BitVec 32) (k0_hw12 : k0_chk12 v112), ∀ a, (k0_off31 v112) a + S1x1024.size a ≤ S8192x1024.size a := fun v112 k0_hw12 => k0_hw12.2

def k0_off32 (v115 : BitVec 32) : Fin 2 → Nat :=
  let v173 : Index := Scalar.indexCast v115
  let c0_85 : Index := 0#32
  ![v173.toNat, 0]

def k0_chk13 (v115 : BitVec 32) : Prop :=
  (∀ a, (k0_off24 v115) a + S1x1024.size a ≤ S8192x1024.size a) ∧
  (∀ a, (k0_off32 v115) a + S1x1024.size a ≤ S8192x1024.size a)
theorem k0_off24_inb : ∀ (v115 : BitVec 32) (k0_hw13 : k0_chk13 v115), ∀ a, (k0_off24 v115) a + S1x1024.size a ≤ S8192x1024.size a := fun v115 k0_hw13 => k0_hw13.1
theorem k0_off32_inb : ∀ (v115 : BitVec 32) (k0_hw13 : k0_chk13 v115), ∀ a, (k0_off32 v115) a + S1x1024.size a ≤ S8192x1024.size a := fun v115 k0_hw13 => k0_hw13.2

def k0_off33 (v118 : BitVec 32) : Fin 2 → Nat :=
  let v177 : Index := Scalar.indexCast v118
  let c0_86 : Index := 0#32
  ![v177.toNat, 0]

def k0_chk14 (v118 : BitVec 32) : Prop :=
  (∀ a, (k0_off25 v118) a + S1x1024.size a ≤ S8192x1024.size a) ∧
  (∀ a, (k0_off33 v118) a + S1x1024.size a ≤ S8192x1024.size a)
theorem k0_off25_inb : ∀ (v118 : BitVec 32) (k0_hw14 : k0_chk14 v118), ∀ a, (k0_off25 v118) a + S1x1024.size a ≤ S8192x1024.size a := fun v118 k0_hw14 => k0_hw14.1
theorem k0_off33_inb : ∀ (v118 : BitVec 32) (k0_hw14 : k0_chk14 v118), ∀ a, (k0_off33 v118) a + S1x1024.size a ≤ S8192x1024.size a := fun v118 k0_hw14 => k0_hw14.2

def k0_off34 (v121 : BitVec 32) : Fin 2 → Nat :=
  let v181 : Index := Scalar.indexCast v121
  let c0_87 : Index := 0#32
  ![v181.toNat, 0]

def k0_chk15 (v121 : BitVec 32) : Prop :=
  (∀ a, (k0_off26 v121) a + S1x1024.size a ≤ S8192x1024.size a) ∧
  (∀ a, (k0_off34 v121) a + S1x1024.size a ≤ S8192x1024.size a)
theorem k0_off26_inb : ∀ (v121 : BitVec 32) (k0_hw15 : k0_chk15 v121), ∀ a, (k0_off26 v121) a + S1x1024.size a ≤ S8192x1024.size a := fun v121 k0_hw15 => k0_hw15.1
theorem k0_off34_inb : ∀ (v121 : BitVec 32) (k0_hw15 : k0_chk15 v121), ∀ a, (k0_off34 v121) a + S1x1024.size a ≤ S8192x1024.size a := fun v121 k0_hw15 => k0_hw15.2

def k0_cond2 (i : grid0.Coords) : BitVec 1 :=
  let arg1 : BitVec 32 := BitVec.ofNat 32 (i 1).val
  let c15_i32 : BitVec 32 := 15#32
  let v4 : BitVec 1 := Scalar.cmpi .eq arg1 c15_i32
  let v5 : BitVec 32 := Scalar.extui v4
  let c0_i32_3 : BitVec 32 := 0#32
  let v6 : BitVec 1 := Scalar.cmpi .ne v5 c0_i32_3
  v6

@[reducible] def k0_t2_loop : Scf.Loop 32 :=
  let c0_i32_4 : BitVec 32 := 0#32
  let c16_i32 : BitVec 32 := 16#32
  let v7 : BitVec 32 := Scalar.addi c0_i32_4 c16_i32
  let c1_i32_5 : BitVec 32 := 1#32
  ⟨c0_i32_4, v7, c1_i32_5⟩
def k0_mult2 (k0_t2 : Fin k0_t2_loop.trips) : BitVec 32 :=
  let c0_i32_4 : BitVec 32 := 0#32
  let c1_i32_5 : BitVec 32 := 1#32
  let arg9 : BitVec 32 := Scf.iv c0_i32_4 c1_i32_5 k0_t2
  let c512_i32 : BitVec 32 := 512#32
  let v9 : BitVec 32 := Scalar.muli arg9 c512_i32
  v9
def k0_off35 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v9 : BitVec 32 := Scalar.muli arg9 c512_i32
  let v10 : BitVec 32 := v9
  let v11 : Index := Scalar.indexCast v10
  let c0 : Index := 0#32
  ![v11.toNat, 0]
def k0_mult3 (k0_t2 : Fin k0_t2_loop.trips) : BitVec 32 :=
  let c0_i32_4 : BitVec 32 := 0#32
  let c1_i32_5 : BitVec 32 := 1#32
  let arg9 : BitVec 32 := Scf.iv c0_i32_4 c1_i32_5 k0_t2
  let c512_i32_16 : BitVec 32 := 512#32
  let v31 : BitVec 32 := Scalar.muli arg9 c512_i32_16
  v31
def k0_off36 (i : grid0.Coords) (k0_t2 : Fin k0_t2_loop.trips) : Fin 3 → Nat :=
  let arg0 : BitVec 32 := BitVec.ofNat 32 (i 0).val
  let c0_i32_4 : BitVec 32 := 0#32
  let c1_i32_5 : BitVec 32 := 1#32
  let arg9 : BitVec 32 := Scf.iv c0_i32_4 c1_i32_5 k0_t2
  let c512_i32_16 : BitVec 32 := 512#32
  let v31 : BitVec 32 := Scalar.muli arg9 c512_i32_16
  let v32 : BitVec 32 := v31
  let c0_i32_18 : BitVec 32 := 0#32
  ![arg0.toNat, v32.toNat, 0]
def k0_off37 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32_16 : BitVec 32 := 512#32
  let v31 : BitVec 32 := Scalar.muli arg9 c512_i32_16
  let v32 : BitVec 32 := v31
  let c0_i32_19 : BitVec 32 := 0#32
  ![v32.toNat, 0]
@[reducible] def k0_t3_loop : Scf.Loop 32 :=
  let c0_i32_7 : BitVec 32 := 0#32
  let c16_i32_8 : BitVec 32 := 16#32
  let v8 : BitVec 32 := Scalar.addi c0_i32_7 c16_i32_8
  let c1_i32_9 : BitVec 32 := 1#32
  ⟨c0_i32_7, v8, c1_i32_9⟩
def k0_mult4 (k0_t3 : Fin k0_t3_loop.trips) : BitVec 32 :=
  let c0_i32_7 : BitVec 32 := 0#32
  let c1_i32_9 : BitVec 32 := 1#32
  let arg9 : BitVec 32 := Scf.iv c0_i32_7 c1_i32_9 k0_t3
  let c512_i32 : BitVec 32 := 512#32
  let v9 : BitVec 32 := Scalar.muli arg9 c512_i32
  v9
def k0_off38 (i : grid0.Coords) (k0_t3 : Fin k0_t3_loop.trips) : Fin 3 → Nat :=
  let arg0 : BitVec 32 := BitVec.ofNat 32 (i 0).val
  let c0_i32_7 : BitVec 32 := 0#32
  let c1_i32_9 : BitVec 32 := 1#32
  let arg9 : BitVec 32 := Scf.iv c0_i32_7 c1_i32_9 k0_t3
  let c512_i32 : BitVec 32 := 512#32
  let v9 : BitVec 32 := Scalar.muli arg9 c512_i32
  let v10 : BitVec 32 := v9
  let c0_i32_12 : BitVec 32 := 0#32
  ![arg0.toNat, v10.toNat, 0]
def k0_off39 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c512_i32 : BitVec 32 := 512#32
  let v9 : BitVec 32 := Scalar.muli arg9 c512_i32
  let v10 : BitVec 32 := v9
  let c0_i32_13 : BitVec 32 := 0#32
  ![v10.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== CombineReferenceIdeal.lean ====
abbrev S2x16x1024 : Shape := ⟨3, ![2, 16, 1024]⟩
abbrev S2x16x1024x1024 : Shape := ⟨4, ![2, 16, 1024, 1024]⟩
abbrev S2x8192x1024 : Shape := ⟨3, ![2, 8192, 1024]⟩
abbrev S1024 : Shape := ⟨1, ![1024]⟩
abbrev S_ : Shape := ⟨0, ![]⟩
abbrev S8192x1024 : Shape := ⟨2, ![8192, 1024]⟩
abbrev S1x16x1024 : Shape := ⟨3, ![1, 16, 1024]⟩
abbrev S16x1024 : Shape := ⟨2, ![16, 1024]⟩
abbrev S16384 : Shape := ⟨1, ![16384]⟩
abbrev S1x16x1024x1024 : Shape := ⟨4, ![1, 16, 1024, 1024]⟩
abbrev S16x1024x1024 : Shape := ⟨3, ![16, 1024, 1024]⟩
abbrev S16384x1024 : Shape := ⟨2, ![16384, 1024]⟩
abbrev S16384x1 : Shape := ⟨2, ![16384, 1]⟩
abbrev S1x8192x1024 : Shape := ⟨3, ![1, 8192, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x16x1024, .i32⟩
  | .hbm, ⟨1, _⟩ => ⟨S2x16x1024x1024, .bf16⟩
  | .hbm, ⟨2, _⟩ => ⟨S2x8192x1024, .f32⟩
  | .hbm, ⟨3, _⟩ => ⟨S1024, .f32⟩
  | .hbm, ⟨4, _⟩ => ⟨S_, .f32⟩
  | .hbm, ⟨5, _⟩ => ⟨S8192x1024, .f32⟩
  | .hbm, ⟨6, _⟩ => ⟨S1x16x1024, .i32⟩
  | .hbm, ⟨7, _⟩ => ⟨S16x1024, .i32⟩
  | .hbm, ⟨8, _⟩ => ⟨S16384, .i32⟩
  | .hbm, ⟨9, _⟩ => ⟨S1x16x1024x1024, .bf16⟩
  | .hbm, ⟨10, _⟩ => ⟨S16x1024x1024, .bf16⟩
  | .hbm, ⟨11, _⟩ => ⟨S16x1024x1024, .f32⟩
  | .hbm, ⟨12, _⟩ => ⟨S16384x1024, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S1x16x1024, .i32⟩
  | .hbm, ⟨25, _⟩ => ⟨S16x1024, .i32⟩
  | .hbm, ⟨26, _⟩ => ⟨S16384, .i32⟩
  | .hbm, ⟨27, _⟩ => ⟨S1x16x1024x1024, .bf16⟩
  | .hbm, ⟨28, _⟩ => ⟨S16x1024x1024, .bf16⟩
  | .hbm, ⟨29, _⟩ => ⟨S16x1024x1024, .f32⟩
  | .hbm, ⟨30, _⟩ => ⟨S16384x1024, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S8192x1024, .f32⟩
  | .hbm, ⟨40, _⟩ => ⟨S1x8192x1024, .f32⟩
  | .hbm, ⟨41, _⟩ => ⟨S1x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | _, _ => ⟨S2x16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Tactic

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-! ## What the body computes at a point

From the tile's number `f`, the second scratch's contents `s` and the blocks: the same in both of the experts' calls. -/

/-- The rectangles the body loads and stores through: the whole of each operand's block, and the two batches' halves. -/
abbrev rX0 : Rect S2x1x1024x512 := Rect.unit ![0, 0, 0, 0] S1x1x1024x512.size inb_S2x1x1024x512_S1x1x1024x512_0_0_0_0
abbrev rX1 : Rect S2x1x1024x512 := Rect.unit ![1, 0, 0, 0] S1x1x1024x512.size inb_S2x1x1024x512_S1x1x1024x512_1_0_0_0
abbrev rP : Rect S2x1x1024x128 := Rect.unit ![0, 0, 0, 0] S2x1x1024x128.size inb_S2x1x1024x128_S2x1x1024x128_0_0_0_0
abbrev rM0 : Rect S8x1024 := Rect.unit ![0, 0] S1x1024.size inb_S8x1024_S1x1024_0_0
abbrev rM1 : Rect S8x1024 := Rect.unit ![1, 0] S1x1024.size inb_S8x1024_S1x1024_1_0
abbrev rG : Rect S1x1024x512 := Rect.unit ![0, 0, 0] S1x1024x512.size inb_S1x1024x512_S1x1024x512_0_0_0
abbrev rD : Rect S1x512x1024 := Rect.unit ![0, 0, 0] S1x512x1024.size inb_S1x512x1024_S1x512x1024_0_0_0
abbrev rA0 : Rect S2048x1024 := Rect.unit ![0, 0] S1024x1024.size inb_S2048x1024_S1024x1024_0_0
abbrev rA1 : Rect S2048x1024 := Rect.unit ![1024, 0] S1024x1024.size inb_S2048x1024_S1024x1024_1024_0
abbrev rS : Rect S2048x128 := Rect.unit ![0, 0] S2048x128.size inb_S2048x128_S2048x128_0_0
abbrev rS0 : Rect S2048x128 := Rect.unit ![0, 0] S1024x128.size inb_S2048x128_S1024x128_0_0
abbrev rS1 : Rect S2048x128 := Rect.unit ![1024, 0] S1024x128.size inb_S2048x128_S1024x128_1024_0
abbrev rO0 : Rect S2x1x1024x1024 := Rect.unit ![0, 0, 0, 0] S1x1x1024x1024.size inb_S2x1x1024x1024_S1x1x1024x1024_0_0_0_0
abbrev rO1 : Rect S2x1x1024x1024 := Rect.unit ![1, 0, 0, 0] S1x1x1024x1024.size inb_S2x1x1024x1024_S1x1x1024x1024_1_0_0_0

section Pure

variable (f : Fin 4) (s : Vec F S2048x128 .f32) (x0 : Vec F S2x1x1024x512 .i32) (x2 : Vec F S8x1024 .f32)
  (x3 x4 : Vec F S1x1024x512 .f32) (x5 : Vec F S1x512x1024 .f32) (z : Vec F S2048x1024 .f32)

/-- The tile's number, as the word the body compares with zero. -/
abbrev tileWord : BitVec 32 := BitVec.ofNat 32 f.val

/-- The hidden activations of the second batch. -/
def hid1 : FVec F S1024x512 .bf16 := k0_pay11 (k0_pay6 (View.ld x3 rG)) (k0_pay7 (View.ld x4 rG)) (View.ld x0 rX1)

/-- The first batch's running sum at this tile, from the sum `z` of the tiles before it. -/
def acc0 : FVec F S1024x1024 .f32 :=
  k0_pay12 (tileWord f) (k0_pay6 (View.ld x3 rG)) (k0_pay7 (View.ld x4 rG)) (k0_pay8 (View.ld x5 rD)) (k0_pay9 (View.ld x0 rX0))
    (k0_pay10 (View.ld x0 rX0)) 4294901760#32 (View.ld z rA0)

/-- The second batch's. -/
def acc1 : FVec F S1024x1024 .f32 := k0_pay2 (tileWord f) (k0_pay8 (View.ld x5 rD)) (hid1 x0 x3 x4) (View.ld z rA1)

/-- The stores into the running sum's scratch at a point, the last first. -/
def accPieces : List (View.Piece (Elt F) S2048x1024 .f32) :=
  [⟨rA1, k0_pay3 (tileWord f) (k0_pay8 (View.ld x5 rD)) (hid1 x0 x3 x4) (View.ld z rA1)⟩,
   ⟨rA0, k0_pay13 (tileWord f) (k0_pay6 (View.ld x3 rG)) (k0_pay7 (View.ld x4 rG)) (k0_pay8 (View.ld x5 rD)) (k0_pay9 (View.ld x0 rX0))
      (k0_pay10 (View.ld x0 rX0)) 4294901760#32 (View.ld z rA0)⟩]

/-- The stores into the result's staging buffer at a point, the last first. -/
def outPieces : List (View.Piece (Elt F) S2x1x1024x1024 .bf16) :=
  [⟨rO1, k0_pay4 (tileWord f) (k0_pay8 (View.ld x5 rD)) (hid1 x0 x3 x4) (View.ld z rA1) (View.ld s rS1) (View.ld x2 rM1)⟩,
   ⟨rO0, k0_pay1 (k0_pay14 (tileWord f) (k0_pay6 (View.ld x3 rG)) (k0_pay7 (View.ld x4 rG)) (k0_pay8 (View.ld x5 rD))
      (k0_pay9 (View.ld x0 rX0)) (k0_pay10 (View.ld x0 rX0)) 4294901760#32 (View.ld z rA0) (View.ld s rS0)) (View.ld x2 rM0)⟩]

/-- The running sums of both batches after a point. -/
def accNext : Vec F S2048x1024 .f32 := View.canon (accPieces f x0 x3 x4 x5 z)

/-- The result's block after a point. -/
def outNext : Vec F S2x1x1024x1024 .bf16 := View.canon (outPieces f s x0 x2 x3 x4 x5 z)

theorem accPieces_cover (y : S2048x1024.Idx) : ∃ p ∈ accPieces f x0 x3 x4 x5 z, y ∈ p.1.set :=
  View.cover_of_tiled (accPieces f x0 x3 x4 x5 z) S1024x1024.size (by rfl) y

theorem outPieces_cover (y : S2x1x1024x1024.Idx) : ∃ p ∈ outPieces f s x0 x2 x3 x4 x5 z, y ∈ p.1.set :=
  View.cover_of_tiled (outPieces f s x0 x2 x3 x4 x5 z) S1x1x1024x1024.size (by rfl) y

/-- At the first tile nothing of the running sum found in the scratch is kept: the body takes zero in its place. -/
theorem accPieces_first (h : f.val = 0) (z' : Vec F S2048x1024 .f32) : accPieces f x0 x3 x4 x5 z = accPieces f x0 x3 x4 x5 z' := by
  unfold accPieces tileWord; rw [h]; rfl

theorem outPieces_first (h : f.val = 0) (z' : Vec F S2048x1024 .f32) :
    outPieces f s x0 x2 x3 x4 x5 z = outPieces f s x0 x2 x3 x4 x5 z' := by
  unfold outPieces tileWord; rw [h]; rfl

end Pure

/-- The tile's number at a point of the grid. -/
def tileOf (i : grid0.Coords) : Fin 4 := i 1

/-- Each row's affinity, repeated over the lanes: what the second scratch holds once the body has stored it. -/
def scaleBuf (i : grid0.Coords) (x1 : Vec F S2x1x1024x128 .f32) : Vec F S2048x128 .f32 := View.canon [⟨rS, k0_pay5 i (View.ld x1 rP)⟩]

/-! ## The body's run -/

theorem kernelRun (c : Dev nD) (i : grid0.Coords)
    (M0 : Memref sig .tc .vmem S2x1x1024x512 .i32) (h0 : M0.IsWhole) (M1 : Memref sig .tc .vmem S2x1x1024x128 .f32) (h1 : M1.IsWhole)
    (M2 : Memref sig .tc .vmem S8x1024 .f32) (h2 : M2.IsWhole) (M3 : Memref sig .tc .vmem S1x1024x512 .f32) (h3 : M3.IsWhole)
    (M4 : Memref sig .tc .vmem S1x1024x512 .f32) (h4 : M4.IsWhole) (M5 : Memref sig .tc .vmem S1x512x1024 .f32) (h5 : M5.IsWhole)
    (M6 : Memref sig .tc .hbm S2x16x1024x1024 .bf16) (h6 : M6.IsWhole) (M7 : Memref sig .tc .vmem S2x1x1024x1024 .bf16) (h7 : M7.IsWhole)
    (M8 : Memref sig .tc .vmem S2048x1024 .f32) (h8 : M8.IsWhole) (M9 : Memref sig .tc .vmem S2048x128 .f32) (h9 : M9.IsWhole)
    (x0 : Vec F S2x1x1024x512 .i32) (x1 : Vec F S2x1x1024x128 .f32) (x2 : Vec F S8x1024 .f32)
    (x3 x4 : Vec F S1x1024x512 .f32) (x5 : Vec F S1x512x1024 .f32) (z : Vec F S2048x1024 .f32) (E : Set ℕ) (K : PUnit → sProp 𝕄) :
        iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare x5
            ∗ (∃ d, owns (c : Thread nD τ) M7 fullShare d) ∗ owns (c : Thread nD τ) M8 fullShare z ∗ (∃ d, owns (c : Thread nD τ) M9 fullShare d)
            ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare x5
            ∗ owns (c : Thread nD τ) M7 fullShare (outNext (tileOf i) (scaleBuf i x1) x0 x2 x3 x4 x5 z) ∗ owns (c : Thread nD τ) M8 fullShare (accNext (tileOf i) x0 x3 x4 x5 z)
              ∗ (∃ d, owns (c : Thread nD τ) M9 fullShare d)) -∗ K ⟨⟩))
          ⊢ wp frame (wpE (defs₀ (F := F)) 𝒱₀ c none) E (cc0_experts i M0 h0 M1 h1 M2 h2 M3 h3 M4 h4 M5 h5 M6 h6 M7 h7 M8 h8 M9 h9) K := by
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%d9, %f9, -, H9⟩, Hk⟩
    obtain rfl := hf0; obtain rfl := hf1; obtain rfl := hf2; obtain rfl := hf3; obtain rfl := hf4; obtain rfl := hf5; obtain rfl := hf8
    sl_unfold [cc0_experts]
    sl_exec!
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H7]
    · iexists _; isplitr; swap; · iexact H7
      ipureintro
      rw [View.read_writes_junk_eq_canon]
      unfold outNext
      refine congrArg View.canon ?_
      delta kernelRun.sl.H7_2 kernelRun.sl.r_6 kernelRun.sl.v70 kernelRun.sl.v89
      simp only [View.readCov_eq_canon']
      rfl
    isplitl [H8]
    · iexists _; isplitr; swap; · iexact H8
      ipureintro
      rw [View.read_writes_junk_eq_canon]
      unfold accNext
      refine congrArg View.canon ?_
      rfl
    iexists _, _; isplitr; swap; · iexact H9
    ipureintro; rfl

/-! ## The pipeline's proof data -/

variable (m : (ℓ : Loc nD τ sig) → Buf (Elt F) ℓ) (ρ : Dev nD → PrngReg)

/-- The second grid coordinate of a point is its tile's number. -/
theorem coords_tile : ∀ t : Fin cfg0.N, (tileOf (grid0.coords t)).val = t.val % 4 :=
  (by decide +kernel : ∀ t : Fin grid0.N, (grid0.coords t 1).val = t.val % 4)

/-- The running sums in the scratch when point `n` starts, by recursion on the points. -/
def accAt (c : Dev nD) : ℕ → Vec F S2048x1024 .f32
  | 0 => View.canon []
  | n + 1 => if h : n < cfg0.N then
      accNext (tileOf (grid0.coords ⟨n, h⟩)) (iblk m c 0 ⟨n, h⟩) (iblk m c 3 ⟨n, h⟩) (iblk m c 4 ⟨n, h⟩) (iblk m c 5 ⟨n, h⟩) (accAt c n)
    else View.canon []

theorem accAt_succ (c : Dev nD) (t : Fin cfg0.N) : accAt m c (t.val + 1) =
    accNext (tileOf (grid0.coords t)) (iblk m c 0 t) (iblk m c 3 t) (iblk m c 4 t) (iblk m c 5 t) (accAt m c t.val) := by
  rw [accAt, dif_pos t.isLt]

/-- The result's block that the body leaves at a point. -/
def outAt (c : Dev nD) (t : Fin cfg0.N) : Vec F S2x1x1024x1024 .bf16 :=
  outNext (tileOf (grid0.coords t)) (scaleBuf (grid0.coords t) (iblk m c 1 t)) (iblk m c 0 t) (iblk m c 2 t) (iblk m c 3 t) (iblk m c 4 t) (iblk m c 5 t) (accAt m c t.val)

/-- From the sums that an expert's earlier tiles leave — or, at its first tile, from any contents — the body leaves the next sums, -/
theorem accNext_eq (c : Dev nD) (t : Fin cfg0.N) (z : Vec F S2048x1024 .f32) (hz : t.val % 4 ≠ 0 → z = accAt m c t.val) :
    accNext (tileOf (grid0.coords t)) (iblk m c 0 t) (iblk m c 3 t) (iblk m c 4 t) (iblk m c 5 t) z = accAt m c (t.val + 1) := by
  rw [accAt_succ]
  by_cases h : t.val % 4 = 0
  · unfold accNext; rw [accPieces_first _ _ _ _ _ z ((coords_tile t).trans h) (accAt m c t.val)]
  · rw [hz h]

/-- and the result's block. -/
theorem outNext_eq (c : Dev nD) (t : Fin cfg0.N) (z : Vec F S2048x1024 .f32) (hz : t.val % 4 ≠ 0 → z = accAt m c t.val) :
    outNext (tileOf (grid0.coords t)) (scaleBuf (grid0.coords t) (iblk m c 1 t)) (iblk m c 0 t) (iblk m c 2 t) (iblk m c 3 t) (iblk m c 4 t) (iblk m c 5 t) z = outAt m c t := by
  unfold outAt
  by_cases h : t.val % 4 = 0
  · unfold outNext; rw [outPieces_first _ _ _ _ _ _ _ z ((coords_tile t).trans h) (accAt m c t.val)]
  · rw [hz h]

/-- What the body carries from point to point: the first scratch at the running sums, save before an expert's first tile, when it
    holds anything; the second scratch at anything; the generator's register. -/
def inv (c : Dev nD) (n : ℕ) : sProp 𝕄 :=
  iprop((∃ z, ⌜n % 4 ≠ 0 → z = accAt m c n⌝ ∗ owns (c : Thread nD τ) (Memref.whole cc0_scratch0) fullShare z)
    ∗ (∃ d, owns (c : Thread nD τ) (Memref.whole cc0_scratch1) fullShare d) ∗ ∃ r, prngReg c r)

/-- The arrays as the region finds them; after the body each input's buffer at its block and the result's at `outAt`; the
    invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := inv m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- The library's body obligation: at each point the body's run, its inputs at their blocks and the running sums as `inv` has them. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = inv m c (t.val + 1) from rfl, show (dats m 0 c).Φ t.castSucc = inv m c t.val from rfl,
    show (dats m 0 c).owesAt () t.succ = (dats m 0 c).owesAt () t.castSucc from rfl,
    after0_0, after0_1, after0_2, after0_3, after0_4, after0_5, after0_6]
  unfold inv
  iintro ⟨⟨⟨%z, %hz, HZ⟩, HS, HR⟩, Ho, ⟨%d0, H0⟩, ⟨%d1, H1⟩, ⟨%d2, H2⟩, ⟨%d3, H3⟩, ⟨%d4, H4⟩, ⟨%d5, H5⟩, ⟨%d6, H6⟩⟩
  iapply (kernelRun c _ _ _ _ _ _ _ _ _ _ _ _ _ _ _ _ _ _ _ _ _ (iblk m c 0 t) (iblk m c 1 t) (iblk m c 2 t) (iblk m c 3 t) (iblk m c 4 t)
    (iblk m c 5 t) z Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HZ]; · iexact HZ
  isplitl [HS]; · iexact HS
  rw [outNext_eq m c t z hz, accNext_eq m c t z hz]
  iintro ⟨H0, H1, H2, H3, H4, H5, H6, HZ, HS⟩
  isplitl [HZ HS HR]
  · isplitl [HZ]
    · iexists _; isplitr; swap; · iexact HZ
      ipureintro; exact fun _ => rfl
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The run and the frame -/

theorem inv_in (c : Dev nD) : ΦA spec0 c ⊢ inv m c 0 := by
  unfold ΦA inv
  rw [scopedRest0_eq]
  simp only [owns_whole]
  iintro ⟨⟨⟨%f, Hf⟩, ⟨%g, Hg⟩⟩, HR⟩
  isplitl [Hf]
  · iexists f; isplitr; · ipureintro; exact fun h => absurd rfl h
    iexact Hf
  isplitl [Hg]; · iexists g; iexact Hg
  iexact HR

theorem inv_out (c : Dev nD) (n : ℕ) : inv m c n ⊢ ΦA spec0 c := by
  unfold ΦA inv
  rw [scopedRest0_eq]
  simp only [owns_whole]
  iintro ⟨⟨%f, -, Hf⟩, ⟨%g, Hg⟩, HR⟩
  isplitl [Hf Hg]
  · isplitl [Hf]; · iexists f; iexact Hf
    iexists g; iexact Hg
  iexact HR

set_option backward.isDefEq.respectTransparency.types false in
/-- At the compiled mesh, for any values, from any memory with zero counters: every weakly fair execution of @main terminates, and
    every final state has every array at what the library computes from the proof data and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := inv_in m) (hout := fun c => inv_out m c _)

/-- The arguments are left as they were launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) fun _ _ => rfl) (run_main m ρ)

end Cert.KernelIdeal.Hand

end
-- ==== Proof.Spec.lean ====
/- What an experts' call computes, over the extended reals: the experts' feed-forward network on its gathered tokens, each row
   scaled by its affinity and by the gate, as one function of the arguments. -/
module

public import proofs.«01_k».proof.KernelIdeal
public import Idealize.ShloMosaic.Lib.Pointwise

@[expose] public section

noncomputable section

namespace Cert.Experts

open Idealize.ShloMosaic Cert.KernelIdeal

/-! ## The two halves of a word as bfloat16 -/

theorem append_zero_toNat (h : BitVec 16) : (h ++ 0#16).toNat = h.toNat * 65536 := by
  rw [BitVec.toNat_append]
  simp [Nat.shiftLeft_eq]

/-- A bfloat16 pattern with sixteen zeros below it denotes in float32 what it denotes in bfloat16. -/
theorem ieee_widen (h : BitVec 16) : Ideal.ieee 8 23 (h ++ 0#16) = Ideal.ieee 8 7 h := by
  have hlt := h.isLt
  have e1 : (h ++ 0#16).extractLsb' (8 + 23) 1 = h.extractLsb' (8 + 7) 1 := by
    apply BitVec.eq_of_toNat_eq
    simp only [BitVec.extractLsb'_toNat, append_zero_toNat, Nat.shiftRight_eq_div_pow]; omega
  have e2 : ((h ++ 0#16).extractLsb' 23 8).toNat = (h.extractLsb' 7 8).toNat := by
    simp only [BitVec.extractLsb'_toNat, append_zero_toNat, Nat.shiftRight_eq_div_pow]; omega
  have e3 : ((h ++ 0#16).extractLsb' 0 23).toNat = (h.extractLsb' 0 7).toNat * 65536 := by
    simp only [BitVec.extractLsb'_toNat, append_zero_toNat, Nat.shiftRight_eq_div_pow]; omega
  unfold Ideal.ieee
  simp only [e1, e2, e3, Nat.mul_eq_zero, OfNat.ofNat_ne_zero, or_false]
  have p (n : ℤ) : (65536 : ℝ) * (2 : ℝ) ^ (n - 23) = (2 : ℝ) ^ (n - 7) := by
    rw [show n - 7 = 16 + (n - 23) by ring, zpow_add₀ (by norm_num)]; norm_num
  refine if_congr Iff.rfl rfl (if_congr Iff.rfl ?_ ?_)
  · refine congrArg Real.toEReal ?_
    have q : (65536 : ℝ) * (2 : ℝ) ^ (-149 : ℤ) = (2 : ℝ) ^ (-133 : ℤ) := by
      have q := p (-126); rwa [show (-126 : ℤ) - 23 = -149 by norm_num, show (-126 : ℤ) - 7 = -133 by norm_num] at q
    push_cast
    rw [← q]; ring
  · refine congrArg Real.toEReal ?_
    push_cast
    rw [← p]; ring

/-- The low half of a word, moved up: the bfloat16 that its low sixteen bits are. -/
theorem ofBits_low (w : BitVec 32) : Ideal.ofBits .f32 (IntOp.shli .vector w 16#32) = Ideal.ofBits .bf16 (w.extractLsb' 0 16) := by
  have e : IntOp.shli .vector w 16#32 = (w.extractLsb' 0 16) ++ 0#16 := by
    apply BitVec.eq_of_toNat_eq
    rw [append_zero_toNat]
    have := w.isLt
    simp [IntOp.shli, BitVec.extractLsb'_toNat, BitVec.toNat_shiftLeft, Nat.shiftLeft_eq]; omega
  rw [e]; exact ieee_widen _

/-- The high half of a word, the low sixteen bits cleared: the bfloat16 that its high sixteen bits are. -/
theorem ofBits_high (w : BitVec 32) : Ideal.ofBits .f32 (w &&& 4294901760#32) = Ideal.ofBits .bf16 (w.extractLsb' 16 16) := by
  have e : w &&& 4294901760#32 = (w.extractLsb' 16 16) ++ 0#16 := by
    apply BitVec.eq_of_getLsbD_eq
    intro i hi
    have hm : ∀ i < 32, (4294901760#32).getLsbD i = decide (16 ≤ i) := by decide
    rw [BitVec.getLsbD_and, hm i hi, BitVec.getLsbD_append, BitVec.getLsbD_extractLsb']
    by_cases h : 16 ≤ i
    · rw [if_neg (by omega)]; simp [h]; omega
    · rw [if_pos (by omega)]; simp [h]
  rw [e]; exact ieee_widen _

/-- Feature `d` of a row of packed words: word `d mod 512`'s low half below 512, its high half from 512 on. -/
def half (w : Fin 512 → BitVec 32) (d : Fin 1024) : EReal :=
  Ideal.ofBits .bf16 ((w ⟨d.val % 512, Nat.mod_lt _ (by decide)⟩).extractLsb' (d.val / 512 * 16) 16)

/-- The product of the row's low halves with the first 512 weights plus that of its high halves with the others is the row's
    product with all of them. -/
theorem sum_halves (w : Fin 512 → BitVec 32) (v : Fin 1024 → EReal) (h : ∀ x : Fin 512, x.val < 1024) (h' : ∀ x : Fin 512, 512 + x.val < 1024) :
    (∑ x : Fin 512, Ideal.ofBits .f32 (IntOp.shli .vector (w x) 16#32) * v ⟨x.val, h x⟩)
      + ∑ x : Fin 512, Ideal.ofBits .f32 (IntOp.andi (w x) 4294901760#32) * v ⟨512 + x.val, h' x⟩ = ∑ d : Fin 1024, half w d * v d := by
  refine Eq.symm ((Fin.sum_univ_add (a := 512) (b := 512) fun d => half w d * v d).trans ?_)
  refine congrArg₂ (· + ·) (Finset.sum_congr rfl fun x _ => ?_) (Finset.sum_congr rfl fun x _ => ?_)
  · have e : (⟨(Fin.castAdd 512 x).val % 512, Nat.mod_lt _ (by decide)⟩ : Fin 512) = x := Fin.ext (Nat.mod_eq_of_lt x.isLt)
    have e' : (Fin.castAdd 512 x).val / 512 * 16 = 0 := by rw [show (Fin.castAdd 512 x).val / 512 = 0 from Nat.div_eq_of_lt x.isLt]
    rw [ofBits_low, half, e, e']; rfl
  · have e : (⟨(Fin.natAdd 512 x).val % 512, Nat.mod_lt _ (by decide)⟩ : Fin 512) = x := by
      apply Fin.ext; show (512 + x.val) % 512 = x.val; omega
    have e' : (Fin.natAdd 512 x).val / 512 * 16 = 16 := by show (512 + x.val) / 512 * 16 = 16; omega
    rw [show IntOp.andi (w x) 4294901760#32 = w x &&& 4294901760#32 from rfl, ofBits_high, half, e, e']; rfl

/-! ## The function

Of a call for `g` experts, the first of them expert `e0`. -/

section Fn

variable {g : ℕ} (e0 : ℕ) (he : e0 + g ≤ 16) (X : (⟨4, ![2, g, 1024, 512]⟩ : Shape).Idx → BitVec 32)
  (P : (⟨4, ![2, g, 1024, 128]⟩ : Shape).Idx → EReal) (Md : S8x6144.Idx → EReal)
  (Wg Wu : S16x1024x2048.Idx → EReal) (Wd : S16x2048x1024.Idx → EReal) (Y : S2x16x1024x1024.Idx → EReal)

/-- Feature `d` of the token in row `r` gathered for expert `e` of batch `b`. -/
def tok (b : Fin 2) (e : Fin g) (r : Fin 1024) (d : Fin 1024) : EReal :=
  half (fun j => X (ix4 b e r j)) d

/-- The expert whose weights the call's expert `e` takes. -/
abbrev wexp (e : Fin g) : Fin 16 := ⟨e0 + e.val, by omega⟩

/-- Hidden unit `k` of a projection of that token. -/
def proj (W : S16x1024x2048.Idx → EReal) (b : Fin 2) (e : Fin g) (r : Fin 1024) (k : Fin 2048) : EReal :=
  ∑ d : Fin 1024, tok X b e r d * W (ix3 (wexp e0 he e) d k)

/-- Hidden unit `k`: the gate's projection through `silu`, times the other projection. -/
def hid (b : Fin 2) (e : Fin g) (r : Fin 1024) (k : Fin 2048) : EReal :=
  proj e0 he X Wg b e r k * Ideal.logistic (proj e0 he X Wg b e r k) * proj e0 he X Wu b e r k

/-- Term `k` of the product of a row's hidden units with the second weights. -/
def term (e : Fin g) (b : Fin 2) (r q : Fin 1024) (k : Fin 2048) : EReal :=
  hid e0 he X Wg Wu b e r k * Wd (ix3 (wexp e0 he e) k q)

/-- The expert's output, scaled by the row's affinity and by the gate. -/
def out (b : Fin 2) (e : Fin g) (r c : Fin 1024) : EReal :=
  (∑ k : Fin 2048, term e0 he X Wg Wu Wd e b r c k) * P (ix4 b e r ⟨e0 + e.val, by omega⟩)
    * Md (ix2 ⟨b.val, by omega⟩ ⟨5120 + c.val, by omega⟩)

/-- Tile `f`'s terms, summed. -/
def tile (e : Fin g) (b : Fin 2) (r q : Fin 1024) (f : Fin 4) : EReal :=
  ∑ j : Fin 512, term e0 he X Wg Wu Wd e b r q ⟨f.val * 512 + j.val, by omega⟩

/-- The tiles' sums add up to the sum over all hidden units. -/
theorem tile_sum (e : Fin g) (b : Fin 2) (r q : Fin 1024) :
    ∑ f : Fin 4, tile e0 he X Wg Wu Wd e b r q f = ∑ k : Fin 2048, term e0 he X Wg Wu Wd e b r q k := by
  unfold tile
  rw [← Fintype.sum_prod_type' (f := fun (f : Fin 4) (j : Fin 512) => term e0 he X Wg Wu Wd e b r q ⟨f.val * 512 + j.val, by omega⟩)]
  refine Fintype.sum_equiv finProdFinEquiv _ _ fun p => congrArg (term e0 he X Wg Wu Wd e b r q) (Fin.ext ?_)
  show p.1.val * 512 + p.2.val = p.2.val + 512 * p.1.val
  omega

end Fn

/-- The whole result of the second call: the rows of experts 0 and 1 as they are given, those of the others computed. -/
def result (X : S2x14x1024x512.Idx → BitVec 32) (P : S2x14x1024x128.Idx → EReal) (Md : S8x6144.Idx → EReal)
    (Wg Wu : S16x1024x2048.Idx → EReal) (Wd : S16x2048x1024.Idx → EReal) (Y : S2x16x1024x1024.Idx → EReal) : S2x16x1024x1024.Idx → EReal := fun i =>
  if h : (i 1).val < 2 then Y i
  else out 2 (by decide) X P Md Wg Wu Wd (i 0) (⟨(i 1).val - 2, by have h' : (i 1).val < 16 := (i 1).isLt; omega⟩ : Fin 14) (i 2) (i 3)

/-- The rows that the first call computes. -/
def resultFirst (X : (⟨4, ![2, 2, 1024, 512]⟩ : Shape).Idx → BitVec 32) (P : (⟨4, ![2, 2, 1024, 128]⟩ : Shape).Idx → EReal)
    (Md : S8x6144.Idx → EReal) (Wg Wu : S16x1024x2048.Idx → EReal) (Wd : S16x2048x1024.Idx → EReal) :
    (⟨4, ![2, 2, 1024, 1024]⟩ : Shape).Idx → EReal := fun i =>
  out 0 (by decide) X P Md Wg Wu Wd (i 0) (i 1) (i 2) (i 3)

end Cert.Experts

end
-- ==== Proof.Point.lean ====
/- What the body computes at a point, read at an index over the extended reals. -/
module

public import proofs.«01_k».proof.Proof.Body
public import proofs.«01_k».proof.Proof.Spec

@[expose] public section

noncomputable section

namespace Cert.KernelIdeal.Hand

open Cert.KernelIdeal Cert.KernelIdeal.Gen Cert.Experts
open Idealize.ShloMosaic

variable (f : Fin 4) (s : Vec Ideal S2048x128 .f32) (x0 : Vec Ideal S2x1x1024x512 .i32) (x2 : Vec Ideal S8x1024 .f32)
  (x3 x4 : Vec Ideal S1x1024x512 .f32) (x5 : Vec Ideal S1x512x1024 .f32) (z : Vec Ideal S2048x1024 .f32)

/-- Hidden unit `j` of the tile, of a row of packed words. -/
def hidT (w : Fin 512 → BitVec 32) (j : Fin 512) : EReal :=
  (∑ d : Fin 1024, half w d * x3 (ix3 0 d j)) * Ideal.logistic (∑ d : Fin 1024, half w d * x3 (ix3 0 d j))
    * ∑ d : Fin 1024, half w d * x4 (ix3 0 d j)

/-- The tile's part of the row's product with the second weights. -/
def part (w : Fin 512 → BitVec 32) (c : Fin 1024) : EReal := ∑ j : Fin 512, hidT x3 x4 w j * x5 (ix3 0 j c)

/-- The sum so far, or zero at the first tile. -/
def prev (a : EReal) : EReal := if f.val = 0 then 0 else a

theorem select_prev (a : EReal) : Scalar.select (Scalar.cmpi CmpIPredicate.sgt (tileWord f) 0#32) a (0 : EReal) = prev f a := by
  unfold prev tileWord
  fin_cases f <;> rfl

theorem acc0_apply (r c : Fin 1024) : acc0 f x0 x3 x4 x5 z (ix2 r c)
    = prev f (z (ix2 ⟨r.val, by omega⟩ c)) + part x3 x4 x5 (fun l => x0 (ix4 0 0 r l)) c := by
  pointwise [acc0, k0_pay12, k0_pay6, k0_pay7, k0_pay8, k0_pay9, k0_pay10]
  rw [select_prev]
  refine congrArg _ (Finset.sum_congr rfl fun j _ => ?_)
  simp only [sum_halves (fun l => x0 (ix4 0 0 r l)) (fun d => x3 (ix3 0 d j)) (fun x => by omega) (fun x => by omega),
    sum_halves (fun l => x0 (ix4 0 0 r l)) (fun d => x4 (ix3 0 d j)) (fun x => by omega) (fun x => by omega)]
  rfl

theorem hid1_apply (r : Fin 1024) (j : Fin 512) : hid1 x0 x3 x4 (ix2 r j) = hidT x3 x4 (fun l => x0 (ix4 1 0 r l)) j := by
  pointwise [hid1, k0_pay11, k0_pay6, k0_pay7]
  simp only [sum_halves (fun l => x0 (ix4 1 0 r l)) (fun d => x3 (ix3 0 d j)) (fun x => by omega) (fun x => by omega),
    sum_halves (fun l => x0 (ix4 1 0 r l)) (fun d => x4 (ix3 0 d j)) (fun x => by omega) (fun x => by omega)]
  rfl

theorem acc1_apply (r c : Fin 1024) : acc1 f x0 x3 x4 x5 z (ix2 r c)
    = prev f (z (ix2 ⟨1024 + r.val, by omega⟩ c)) + part x3 x4 x5 (fun l => x0 (ix4 1 0 r l)) c := by
  pointwise [acc1, k0_pay2, k0_pay8]
  rw [select_prev]
  refine congrArg _ (Finset.sum_congr rfl fun j _ => ?_)
  rw [hid1_apply]

/-- The lanes other than the expert's are cleared before the sum. -/
theorem select_lane (n : Fin 128) (p : Fin 128 → EReal) :
    (∑ x : Fin 128, Scalar.select (IntOp.cmpi CmpIPredicate.eq (BitVec.ofNat 32 x.val) (BitVec.ofNat 32 n.val)) (p x) (0 : EReal)) = p n := by
  have h : ∀ n x : Fin 128, IntOp.cmpi CmpIPredicate.eq (BitVec.ofNat 32 x.val) (BitVec.ofNat 32 n.val) = if x = n then 1#1 else 0#1 := by
    decide +kernel
  rw [Finset.sum_eq_single_of_mem n (Finset.mem_univ _) fun x _ hx => ?_]
  · rw [h, if_pos rfl]; rfl
  · rw [h, if_neg hx]; rfl

/-- The affinities' lane of a point's expert. -/
theorem lane_word : ∀ e : Fin 14, Scalar.addi (2#32) (BitVec.ofNat 32 e.val) = BitVec.ofNat 32 (2 + e.val) := by decide +kernel

/-- That lane. -/
def laneOf (i : grid0.Coords) : Fin 128 := ⟨2 + (i 0).val, by have h : (i 0).val < 14 := (i 0).isLt; omega⟩

theorem scaleBuf_apply (i : grid0.Coords) (x1 : Vec Ideal S2x1x1024x128 .f32) (r : Fin 2048) (l : Fin 128) : scaleBuf i x1 (ix2 r l)
    = x1 (ix4 ⟨r.val / 1024, by omega⟩ 0 ⟨r.val % 1024, by omega⟩ (laneOf i)) := by
  unfold scaleBuf
  rw [View.canon_unit_zero (by funext a; match a with | 0 => rfl | 1 => rfl)]
  pointwise [k0_pay5]
  rw [lane_word (i 0)]
  exact select_lane (laneOf i) _

/-- A row's sum after the point. -/
def sumT (b : Fin 2) (r c : Fin 1024) : EReal :=
  prev f (z (ix2 ⟨b.val * 1024 + r.val, by omega⟩ c)) + part x3 x4 x5 (fun l => x0 (ix4 b 0 r l)) c

theorem sumT_zero (r c : Fin 1024) : acc0 f x0 x3 x4 x5 z (ix2 r c) = sumT f x0 x3 x4 x5 z 0 r c := by
  rw [acc0_apply]; unfold sumT
  exact congrArg (fun q => prev f (z (ix2 q c)) + _) (Fin.ext (by show r.val = 0 * 1024 + r.val; omega))

theorem sumT_one (r c : Fin 1024) : acc1 f x0 x3 x4 x5 z (ix2 r c) = sumT f x0 x3 x4 x5 z 1 r c := by
  rw [acc1_apply]; unfold sumT
  exact congrArg (fun q => prev f (z (ix2 q c)) + _) (Fin.ext (by show 1024 + r.val = 1 * 1024 + r.val; omega))

theorem emb_rA1 (r c : Fin 1024) : (ix2 ⟨1024 + r.val, by omega⟩ c : S2048x1024.Idx) = rA1.emb (ix2 r c) := by
  funext a; match a with | 0 => exact Fin.ext (by show 1024 + r.val = 1024 + 1 * r.val; omega) | 1 => exact Fin.ext (by show c.val = 0 + 1 * c.val; omega)

theorem emb_rA0 (r c : Fin 1024) : (ix2 ⟨r.val, by omega⟩ c : S2048x1024.Idx) = rA0.emb (ix2 r c) := by
  funext a; match a with | 0 => exact Fin.ext (by show r.val = 0 + 1 * r.val; omega) | 1 => exact Fin.ext (by show c.val = 0 + 1 * c.val; omega)

theorem emb_rO1 (r c : Fin 1024) : (ix4 1 0 r c : S2x1x1024x1024.Idx) = rO1.emb (ix4 0 0 r c) := by
  funext a
  match a with
  | 0 => rfl
  | 1 => rfl
  | 2 => exact Fin.ext (by show r.val = 0 + 1 * r.val; omega)
  | 3 => exact Fin.ext (by show c.val = 0 + 1 * c.val; omega)

theorem emb_rO0 (r c : Fin 1024) : (ix4 0 0 r c : S2x1x1024x1024.Idx) = rO0.emb (ix4 0 0 r c) := by
  funext a
  match a with
  | 0 => rfl
  | 1 => rfl
  | 2 => exact Fin.ext (by show r.val = 0 + 1 * r.val; omega)
  | 3 => exact Fin.ext (by show c.val = 0 + 1 * c.val; omega)

/-- The running sums after a point: each row's, by its batch. -/
theorem accNext_apply (b : Fin 2) (r c : Fin 1024) :
    accNext f x0 x3 x4 x5 z (ix2 ⟨b.val * 1024 + r.val, by omega⟩ c) = sumT f x0 x3 x4 x5 z b r c := by
  unfold accNext accPieces
  match b with
  | 0 =>
    rw [show (ix2 ⟨(0 : Fin 2).val * 1024 + r.val, by omega⟩ c : S2048x1024.Idx) = ix2 ⟨r.val, by omega⟩ c from
      congrArg (fun q => (ix2 q c : S2048x1024.Idx)) (Fin.ext (by show 0 * 1024 + r.val = r.val; omega))]
    rw [View.canon_cons_of_not_mem _ _ (by rw [Rect.mem_set_unit]; intro h; have := (h 0).1; have h2 : 1024 ≤ r.val := this; omega),
      emb_rA0, View.canon_cons_emb, ← sumT_zero]
    pointwise [k0_pay13]; rfl
  | 1 =>
    rw [show (ix2 ⟨(1 : Fin 2).val * 1024 + r.val, by omega⟩ c : S2048x1024.Idx) = ix2 ⟨1024 + r.val, by omega⟩ c from
      congrArg (fun q => (ix2 q c : S2048x1024.Idx)) (Fin.ext (by show 1 * 1024 + r.val = 1024 + r.val; omega))]
    rw [emb_rA1, View.canon_cons_emb, ← sumT_one]
    pointwise [k0_pay3]; rfl

/-- The block after a point: each row's sum, scaled by its affinity — what the second scratch holds of it — and by the gate. -/
theorem outNext_apply (p : Fin 2 → Fin 1024 → EReal)
    (hs : ∀ (r : Fin 2048) (l : Fin 128), s (ix2 r l) = p ⟨r.val / 1024, by omega⟩ ⟨r.val % 1024, by omega⟩) (b : Fin 2) (r c : Fin 1024) :
    outNext f s x0 x2 x3 x4 x5 z (ix4 b 0 r c) = sumT f x0 x3 x4 x5 z b r c * p b r * x2 (ix2 ⟨b.val, by omega⟩ c) := by
  have e0 : p ⟨r.val / 1024, by omega⟩ ⟨r.val % 1024, by omega⟩ = p 0 r :=
    congrArg₂ p (Fin.ext (by show r.val / 1024 = 0; omega)) (Fin.ext (by show r.val % 1024 = r.val; omega))
  have e1 : p ⟨(1024 + r.val) / 1024, by omega⟩ ⟨(1024 + r.val) % 1024, by omega⟩ = p 1 r :=
    congrArg₂ p (Fin.ext (by show (1024 + r.val) / 1024 = 1; omega)) (Fin.ext (by show (1024 + r.val) % 1024 = r.val; omega))
  unfold outNext outPieces
  match b with
  | 0 =>
    rw [View.canon_cons_of_not_mem _ _ (by rw [Rect.mem_set_unit]; intro h; have h1 := (h 0).1; have h2 : 1 ≤ 0 := h1; omega),
      emb_rO0, View.canon_cons_emb, ← sumT_zero]
    pointwise [k0_pay1, k0_pay14]
    refine congrArg (fun q => acc0 f x0 x3 x4 x5 z (ix2 r c) * q * x2 (ix2 0 c)) ?_
    simp only [hs, e0, dite_eq_ite, ite_self]
  | 1 =>
    rw [emb_rO1, View.canon_cons_emb, ← sumT_one]
    pointwise [k0_pay4]
    refine congrArg (fun q => acc1 f x0 x3 x4 x5 z (ix2 r c) * q * x2 (ix2 1 c)) ?_
    simp only [hs, e1, dite_eq_ite, ite_self]

end Cert.KernelIdeal.Hand

end
-- ==== Proof.Array.lean ====
/- The result's array after the run, over the extended reals: the weights' tiles summed to the whole product, the blocks
   written to the function's array. -/
module

public import proofs.«01_k».proof.Proof.Point
public import Idealize.ShloMosaic.Lib.Pipeline.ValueKit.Partial

@[expose] public section

noncomputable section

namespace Cert.KernelIdeal.Hand

open Cert.KernelIdeal Cert.KernelIdeal.Gen Cert.Experts
open Idealize.ShloMosaic Idealize.ShloMosaic.TcCoe

variable (m : (ℓ : Loc nD τ sig) → Buf (Elt Ideal) ℓ) (c : Dev nD)

theorem e14 : 2 + 14 ≤ 16 := by decide

/-! ## The blocks, by the point's expert and tile -/

/-- The expert of a point. -/
def ex (t : Fin cfg0.N) : Fin 14 := ⟨t.val / 4, by have h : t.val < 56 := lt_of_lt_of_eq t.isLt N_0; omega⟩

theorem coords_ex : ∀ t : Fin cfg0.N, (grid0.coords t 0).val = t.val / 4 :=
  (by decide +kernel : ∀ t : Fin grid0.N, (grid0.coords t 0).val = t.val / 4)

theorem index0 : ∀ t : Fin cfg0.N, win0_0.index t = ![0, t.val / 4, 0, 0] := (by decide +kernel : ∀ t : Fin grid0.N, win0_0.index t = ![0, t.val / 4, 0, 0])
theorem index1 : ∀ t : Fin cfg0.N, win0_1.index t = ![0, t.val / 4, 0, 0] := (by decide +kernel : ∀ t : Fin grid0.N, win0_1.index t = ![0, t.val / 4, 0, 0])
theorem index2 : ∀ t : Fin cfg0.N, win0_2.index t = ![0, 5] := (by decide +kernel : ∀ t : Fin grid0.N, win0_2.index t = ![0, 5])
theorem index3 : ∀ t : Fin cfg0.N, win0_3.index t = ![2 + t.val / 4, 0, t.val % 4] := (by decide +kernel : ∀ t : Fin grid0.N, win0_3.index t = ![2 + t.val / 4, 0, t.val % 4])
theorem index4 : ∀ t : Fin cfg0.N, win0_4.index t = ![2 + t.val / 4, 0, t.val % 4] := (by decide +kernel : ∀ t : Fin grid0.N, win0_4.index t = ![2 + t.val / 4, 0, t.val % 4])
theorem index5 : ∀ t : Fin cfg0.N, win0_5.index t = ![2 + t.val / 4, t.val % 4, 0] := (by decide +kernel : ∀ t : Fin grid0.N, win0_5.index t = ![2 + t.val / 4, t.val % 4, 0])
theorem index6 : ∀ t : Fin cfg0.N, win0_6.index t = ![0, 2 + t.val / 4, 0, 0] := (by decide +kernel : ∀ t : Fin grid0.N, win0_6.index t = ![0, 2 + t.val / 4, 0, 0])

theorem iblk0 (t : Fin cfg0.N) (b : Fin 2) (r : Fin 1024) (l : Fin 512) :
    iblk m c 0 t (ix4 b 0 r l) = m ((c.tc : Thread nD τ).loc main_arg0) (ix4 b (ex t) r l) := by
  unfold iblk
  rw [View.read_apply]
  show V m c main_arg0 _ = _
  rw [V_main_arg0]
  refine congrArg (m _) (funext fun a => Fin.ext ?_)
  match a with
  | 0 => show win0_0.index t 0 * 2 + 1 * b.val = b.val; rw [index0]; show 0 * 2 + 1 * b.val = b.val; omega
  | 1 => show win0_0.index t 1 * 1 + 1 * 0 = t.val / 4; rw [index0]; show t.val / 4 * 1 + 1 * 0 = t.val / 4; omega
  | 2 => show win0_0.index t 2 * 1024 + 1 * r.val = r.val; rw [index0]; show 0 * 1024 + 1 * r.val = r.val; omega
  | 3 => show win0_0.index t 3 * 512 + 1 * l.val = l.val; rw [index0]; show 0 * 512 + 1 * l.val = l.val; omega

theorem iblk1 (t : Fin cfg0.N) (b : Fin 2) (r : Fin 1024) (l : Fin 128) :
    iblk m c 1 t (ix4 b 0 r l) = m ((c.tc : Thread nD τ).loc main_arg1) (ix4 b (ex t) r l) := by
  unfold iblk
  rw [View.read_apply]
  show V m c main_arg1 _ = _
  rw [V_main_arg1]
  refine congrArg (m _) (funext fun a => Fin.ext ?_)
  match a with
  | 0 => show win0_1.index t 0 * 2 + 1 * b.val = b.val; rw [index1]; show 0 * 2 + 1 * b.val = b.val; omega
  | 1 => show win0_1.index t 1 * 1 + 1 * 0 = t.val / 4; rw [index1]; show t.val / 4 * 1 + 1 * 0 = t.val / 4; omega
  | 2 => show win0_1.index t 2 * 1024 + 1 * r.val = r.val; rw [index1]; show 0 * 1024 + 1 * r.val = r.val; omega
  | 3 => show win0_1.index t 3 * 128 + 1 * l.val = l.val; rw [index1]; show 0 * 128 + 1 * l.val = l.val; omega

theorem iblk2 (t : Fin cfg0.N) (b : Fin 8) (k : Fin 1024) :
    iblk m c 2 t (ix2 b k) = m ((c.tc : Thread nD τ).loc main_arg2) (ix2 b ⟨5120 + k.val, by omega⟩) := by
  unfold iblk
  rw [View.read_apply]
  show V m c main_arg2 _ = _
  rw [V_main_arg2]
  refine congrArg (m _) (funext fun a => Fin.ext ?_)
  match a with
  | 0 => show win0_2.index t 0 * 8 + 1 * b.val = b.val; rw [index2]; show 0 * 8 + 1 * b.val = b.val; omega
  | 1 => show win0_2.index t 1 * 1024 + 1 * k.val = 5120 + k.val; rw [index2]; show 5 * 1024 + 1 * k.val = 5120 + k.val; omega

theorem iblk3 (t : Fin cfg0.N) (d : Fin 1024) (j : Fin 512) :
    iblk m c 3 t (ix3 0 d j) = m ((c.tc : Thread nD τ).loc main_arg3) (ix3 (wexp 2 e14 (ex t)) d ⟨t.val % 4 * 512 + j.val, by omega⟩) := by
  unfold iblk
  rw [View.read_apply]
  show V m c main_arg3 _ = _
  rw [V_main_arg3]
  refine congrArg (m _) (funext fun a => Fin.ext ?_)
  match a with
  | 0 => show win0_3.index t 0 * 1 + 1 * 0 = 2 + t.val / 4; rw [index3]; show (2 + t.val / 4) * 1 + 1 * 0 = 2 + t.val / 4; omega
  | 1 => show win0_3.index t 1 * 1024 + 1 * d.val = d.val; rw [index3]; show 0 * 1024 + 1 * d.val = d.val; omega
  | 2 => show win0_3.index t 2 * 512 + 1 * j.val = t.val % 4 * 512 + j.val; rw [index3]; show t.val % 4 * 512 + 1 * j.val = _; omega

theorem iblk4 (t : Fin cfg0.N) (d : Fin 1024) (j : Fin 512) :
    iblk m c 4 t (ix3 0 d j) = m ((c.tc : Thread nD τ).loc main_arg4) (ix3 (wexp 2 e14 (ex t)) d ⟨t.val % 4 * 512 + j.val, by omega⟩) := by
  unfold iblk
  rw [View.read_apply]
  show V m c main_arg4 _ = _
  rw [V_main_arg4]
  refine congrArg (m _) (funext fun a => Fin.ext ?_)
  match a with
  | 0 => show win0_4.index t 0 * 1 + 1 * 0 = 2 + t.val / 4; rw [index4]; show (2 + t.val / 4) * 1 + 1 * 0 = 2 + t.val / 4; omega
  | 1 => show win0_4.index t 1 * 1024 + 1 * d.val = d.val; rw [index4]; show 0 * 1024 + 1 * d.val = d.val; omega
  | 2 => show win0_4.index t 2 * 512 + 1 * j.val = t.val % 4 * 512 + j.val; rw [index4]; show t.val % 4 * 512 + 1 * j.val = _; omega

theorem iblk5 (t : Fin cfg0.N) (j : Fin 512) (k : Fin 1024) :
    iblk m c 5 t (ix3 0 j k) = m ((c.tc : Thread nD τ).loc main_arg5) (ix3 (wexp 2 e14 (ex t)) ⟨t.val % 4 * 512 + j.val, by omega⟩ k) := by
  unfold iblk
  rw [View.read_apply]
  show V m c main_arg5 _ = _
  rw [V_main_arg5]
  refine congrArg (m _) (funext fun a => Fin.ext ?_)
  match a with
  | 0 => show win0_5.index t 0 * 1 + 1 * 0 = 2 + t.val / 4; rw [index5]; show (2 + t.val / 4) * 1 + 1 * 0 = 2 + t.val / 4; omega
  | 1 => show win0_5.index t 1 * 512 + 1 * j.val = t.val % 4 * 512 + j.val; rw [index5]; show t.val % 4 * 512 + 1 * j.val = _; omega
  | 2 => show win0_5.index t 2 * 1024 + 1 * k.val = k.val; rw [index5]; show 0 * 1024 + 1 * k.val = k.val; omega

/-! ## The sums over an expert's tiles -/

/-- Tile `f`'s part of a row's product, of the arguments as launched. -/
abbrev tileM (e : Fin 14) (b : Fin 2) (r q : Fin 1024) (f : Fin 4) : EReal :=
  tile 2 e14 (m ((c.tc : Thread nD τ).loc main_arg0)) (m ((c.tc : Thread nD τ).loc main_arg3)) (m ((c.tc : Thread nD τ).loc main_arg4))
    (m ((c.tc : Thread nD τ).loc main_arg5)) e b r q f

/-- What a point whose blocks are expert `e`'s tile `f` adds to a row's sum. -/
theorem part_tile {g : ℕ} (e0 : ℕ) (he : e0 + g ≤ 16) (X : (⟨4, ![2, g, 1024, 512]⟩ : Shape).Idx → BitVec 32)
    (Wg Wu : S16x1024x2048.Idx → EReal) (Wd : S16x2048x1024.Idx → EReal) (e : Fin g) (f : Fin 4) (b : Fin 2) (r q : Fin 1024)
    (w : Fin 512 → BitVec 32) (x3 x4 : Vec Ideal S1x1024x512 .f32) (x5 : Vec Ideal S1x512x1024 .f32)
    (hw : ∀ l, w l = X (ix4 b e r l)) (h3 : ∀ d (j : Fin 512), x3 (ix3 0 d j) = Wg (ix3 (wexp e0 he e) d ⟨f.val * 512 + j.val, by omega⟩))
    (h4 : ∀ d (j : Fin 512), x4 (ix3 0 d j) = Wu (ix3 (wexp e0 he e) d ⟨f.val * 512 + j.val, by omega⟩))
    (h5 : ∀ (j : Fin 512) k, x5 (ix3 0 j k) = Wd (ix3 (wexp e0 he e) ⟨f.val * 512 + j.val, by omega⟩ k)) :
    part x3 x4 x5 w q = tile e0 he X Wg Wu Wd e b r q f := by
  obtain rfl : w = fun l => X (ix4 b e r l) := funext hw
  unfold part tile term
  refine Finset.sum_congr rfl fun j _ => ?_
  rw [h5]
  refine congrArg (· * _) ?_
  unfold hidT hid proj tok
  simp only [h3, h4]

/-- What a point adds to a row's sum is its tile's. -/
theorem part_iblk (t : Fin cfg0.N) (b : Fin 2) (r q : Fin 1024) :
    part (iblk m c 3 t) (iblk m c 4 t) (iblk m c 5 t) (fun l => iblk m c 0 t (ix4 b 0 r l)) q
      = tileM m c (ex t) b r q ⟨t.val % 4, by omega⟩ :=
  part_tile 2 e14 _ _ _ _ (ex t) ⟨t.val % 4, by omega⟩ b r q _ _ _ _ (iblk0 m c t b r) (iblk3 m c t) (iblk4 m c t) (iblk5 m c t)

/-- A row's sum after a point: its tiles' up to the point's. -/
theorem sumT_iblk (e : Fin 14) (f : ℕ) (hf : f < 4) (ht : 4 * e.val + f < cfg0.N) (b : Fin 2) (r q : Fin 1024) :
    sumT (tileOf (grid0.coords ⟨4 * e.val + f, ht⟩)) (iblk m c 0 ⟨4 * e.val + f, ht⟩) (iblk m c 3 ⟨4 * e.val + f, ht⟩) (iblk m c 4 ⟨4 * e.val + f, ht⟩)
      (iblk m c 5 ⟨4 * e.val + f, ht⟩) (accAt m c (4 * e.val + f)) b r q
      = ∑ g : Fin (f + 1), tileM m c e b r q ⟨g.val, by omega⟩ := by
  have ee : ex ⟨4 * e.val + f, ht⟩ = e := Fin.ext (by show (4 * e.val + f) / 4 = e.val; omega)
  have ef : (⟨(4 * e.val + f) % 4, by omega⟩ : Fin 4) = ⟨f, hf⟩ := Fin.ext (by show (4 * e.val + f) % 4 = f; omega)
  induction f with
  | zero =>
    unfold sumT prev
    rw [part_iblk, ee, if_pos ((coords_tile _).trans (by show (4 * e.val + 0) % 4 = 0; omega)), zero_add, Fin.sum_univ_one]
    exact congrArg (tileM m c e b r q) ef
  | succ f ih =>
    have ht' : 4 * e.val + f < cfg0.N := by omega
    unfold sumT prev
    rw [part_iblk, ee, if_neg (fun h => by
        have h2 : (4 * e.val + (f + 1)) % 4 = 0 := (coords_tile _).symm.trans h
        omega), Fin.sum_univ_castSucc]
    refine congrArg₂ (· + ·) ?_ (congrArg (tileM m c e b r q) ef)
    rw [show accAt m c (4 * e.val + (f + 1)) = _ from accAt_succ m c ⟨4 * e.val + f, ht'⟩, accNext_apply]
    exact ih (by omega) ht' (Fin.ext (by show (4 * e.val + f) / 4 = e.val; omega)) (Fin.ext (by show (4 * e.val + f) % 4 = f; omega))

/-! ## The array -/

/-- The function, of the arguments as launched. -/
abbrev res : S2x16x1024x1024.Idx → EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The result's array starts as a copy of the one given. -/
theorem V_main_v0 : V m c main_v0 = m ((c.tc : Thread nD τ).loc main_arg6) := by
  unfold V
  rfl

/-- At an expert's last tile the body leaves its output. -/
theorem outAt_last (t : Fin cfg0.N) (h : t.val % 4 = 3) (b : Fin 2) (r q : Fin 1024) : outAt m c t (ix4 b 0 r q)
    = out 2 e14 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) b (ex t) r q := by
  unfold outAt out
  rw [outNext_apply _ _ _ _ _ _ _ _ (fun b r => iblk m c 1 t (ix4 b 0 r (laneOf (grid0.coords t)))) (scaleBuf_apply (grid0.coords t) (iblk m c 1 t)), iblk1, iblk2]
  have e : t = ⟨4 * (ex t).val + 3, by have := t.isLt; show 4 * (t.val / 4) + 3 < _; omega⟩ := Fin.ext (by show t.val = 4 * (t.val / 4) + 3; omega)
  refine congrArg₂ (· * ·) (congrArg₂ (· * ·) ?_ (congrArg (fun x => m ((c.tc : Thread nD τ).loc main_arg1) (ix4 b (ex t) r x))
    (Fin.ext (by show 2 + (grid0.coords t 0).val = 2 + t.val / 4; rw [coords_ex])))) rfl
  refine Eq.trans ?_ ((sumT_iblk m c (ex t) 3 (by omega) (by have := t.isLt; show 4 * (t.val / 4) + 3 < _; omega) b r q).trans (tile_sum 2 e14 _ _ _ _ (ex t) b r q))
  exact congrArg (fun s : Fin cfg0.N => sumT (tileOf (grid0.coords s)) (iblk m c 0 s) (iblk m c 3 s) (iblk m c 4 s) (iblk m c 5 s) (accAt m c s.val) b r q) e

/-- The result's array after the run. -/
theorem final : (dats m 0 c).arrAt 6 cfg0.N = res m c := by
  refine ((dats m 0 c).arrAt_eq_of_coversWhere 6 (res m c) (P := fun i => 2 ≤ (i 1 : ℕ) / 1) (fun β => 2 ≤ β (1 : Fin _)) (by decide +kernel)
    (fun t hf y => ?_) (fun j => Iff.rfl)).trans (funext fun i => ?_)
  · rw [after0_6]
    obtain ⟨b, z, r, q, rfl⟩ : ∃ b z r q, y = ix4 b z r q := ⟨y 0, y 1, y 2, y 3, by funext a; match a with | 0 => rfl | 1 => rfl | 2 => rfl | 3 => rfl⟩
    obtain rfl : z = 0 := Subsingleton.elim _ _
    blk_simp
    refine (outAt_last m c t ((flush0_6 t).mp hf) b r q).trans ?_
    have e : ((cfg0.win 6).blk t).view.emb (ix4 b 0 r q) = ix4 b (wexp 2 e14 (ex t)) r q := by
      funext a
      match a with
      | 0 => exact Fin.ext (by show win0_6.index t 0 * 2 + 1 * b.val = b.val; rw [index6]; show 0 * 2 + 1 * b.val = b.val; omega)
      | 1 => exact Fin.ext (by show win0_6.index t 1 * 1 + 1 * 0 = 2 + t.val / 4; rw [index6]; show (2 + t.val / 4) * 1 + 1 * 0 = 2 + t.val / 4; omega)
      | 2 => exact Fin.ext (by show win0_6.index t 2 * 1024 + 1 * r.val = r.val; rw [index6]; show 0 * 1024 + 1 * r.val = r.val; omega)
      | 3 => exact Fin.ext (by show win0_6.index t 3 * 1024 + 1 * q.val = q.val; rw [index6]; show 0 * 1024 + 1 * q.val = q.val; omega)
    rw [e]
    have h2 : ¬ (2 + (ex t).val < 2) := by omega
    refine Eq.symm ((dif_neg h2).trans ?_)
    exact congrArg (fun x => out 2 e14 _ _ _ _ _ _ b x r q) (Fin.ext (by show 2 + (ex t).val - 2 = (ex t).val; omega))
  · unfold res result
    by_cases h : (i 1).val < 2
    · rw [dif_pos h, if_neg (by have h2 : ¬ 2 ≤ (i 1).val / 1 := by omega
                                exact h2), A_eq]
      exact congrFun (V_main_v0 m c) i
    · rw [if_pos (by have h2 : 2 ≤ (i 1).val / 1 := by omega
                     exact h2)]

end Cert.KernelIdeal.Hand

end
-- ==== Proof.RefValue.lean ====
/- The reference's result, read at an index over the extended reals. -/
module

public import proofs.«01_k».proof.Proof.Gen.ReferenceIdeal.Run
public import proofs.«01_k».proof.Proof.Spec
public import Idealize.ShloMosaic.Lib.Pointwise
public import Idealize.ShloMosaic.Lib.BitcastConvert

@[expose] public section

noncomputable section

namespace Cert.ReferenceIdeal.Hand

open Cert.ReferenceIdeal Cert.ReferenceIdeal.Value Cert.Experts
open Idealize.ShloMosaic Idealize.ShloMosaic.TcCoe

variable (m : (ℓ : Loc nD τ sig) → Buf (Elt Ideal) ℓ) (c : Dev nD)

/-- A half word's position, its word's. -/
theorem drop_word (b : Fin 2) (e : Fin 14) (r : Fin 1024) (j : Fin 512) (h : Fin 2) :
    Gen.splits_S2x14x1024x512_w32_S2x14x1024x512x2_w16.drop (ix5 b e r j h) = ix4 b e r j := by
  funext a
  match a with
  | 0 => rfl
  | 1 => rfl
  | 2 => rfl
  | 3 => rfl

/-- At experts 2 and up the reference's result is the function. -/
theorem out_apply (b : Fin 2) (e : Fin 14) (r q : Fin 1024) :
    res_main_v67 m c (ix4 b (wexp 2 (by decide) e) r q)
    = out 2 (by decide) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) b e r q := by
  unfold res_main_v67
  pointwise
  unfold out term
  refine congrArg (· * _) (congrArg₂ (· * ·) ?_ ?_)
  · refine Finset.sum_congr rfl fun k _ => ?_
    have hp : ∀ W : S16x1024x2048.Idx → EReal, (∑ x : Fin 1024, W (ix3 (wexp 2 (by decide) e) x k)
        * tok (m ((c.tc : Thread nD τ).loc main_arg0)) b e r x) = proj 2 (by decide) (m ((c.tc : Thread nD τ).loc main_arg0)) W b e r k :=
      fun W => Finset.sum_congr rfl fun x _ => mul_comm _ _
    simp only [drop_word]
    exact (mul_comm (G := EReal) _ _).trans (congrArg (· * _)
      (congrArg₂ (· * ·) (congrArg (fun p => p * Ideal.logistic p) (hp (m ((c.tc : Thread nD τ).loc main_arg3)))) (hp (m ((c.tc : Thread nD τ).loc main_arg4)))))
  · fin_cases e <;> rfl

/-- At experts 0 and 1 it is the array given. -/
theorem given_apply (i : S2x16x1024x1024.Idx) (h : (i 1).val < 2) : res_main_v67 m c i = m ((c.tc : Thread nD τ).loc main_arg6) i := by
  obtain ⟨b, e, r, q, rfl⟩ : ∃ b e r q, i = ix4 b e r q := ⟨i 0, i 1, i 2, i 3, by funext a; match a with | 0 => rfl | 1 => rfl | 2 => rfl | 3 => rfl⟩
  unfold res_main_v67
  pointwise
  exact dif_pos h

/-- The reference's result is the function. -/
theorem res_eq : res_main_v67 m c
    = result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) := by
  funext i
  unfold result
  by_cases h : (i 1).val < 2
  · rw [dif_pos h]; exact given_apply m c i h
  · rw [dif_neg h]
    have h' : (i 1).val < 16 := (i 1).isLt
    refine Eq.trans (congrArg (res_main_v67 m c) (funext fun a => ?_)) (out_apply m c (i 0) ⟨(i 1).val - 2, by omega⟩ (i 2) (i 3))
    match a with
    | 0 => rfl
    | 1 => exact Fin.ext (by show (i 1).val = 2 + ((i 1).val - 2); omega)
    | 2 => rfl
    | 3 => rfl

end Cert.ReferenceIdeal.Hand

end
-- ==== Proof.FirstBody.lean ====
/- The first call of the experts' kernel: its body's run, its pipeline's proof data, its frame. What the body computes at a
   point is what the second call's does, but for the affinities' lanes. -/
module

public import proofs.«01_k».proof.Proof.Gen.FirstIdeal.Frame
public import proofs.«01_k».proof.Proof.Gen.FirstIdeal.Skeleton
public import proofs.«01_k».proof.Proof.Body

@[expose] public section

noncomputable section

namespace Cert.FirstIdeal.Hand

open Cert.FirstIdeal Cert.FirstIdeal.Gen
open Cert.KernelIdeal.Hand (accNext outNext accPieces outPieces accPieces_first outPieces_first rP rS)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The tile's number at a point of the grid. -/
def tileOf (i : grid0.Coords) : Fin 4 := i 1

/-- Each row's affinity, repeated over the lanes: what the second scratch holds once the body has stored it. -/
def scaleBuf (i : grid0.Coords) (x1 : Vec F S2x1x1024x128 .f32) : Vec F S2048x128 .f32 := View.canon [⟨rS, k0_pay5 i (View.ld x1 rP)⟩]

/-! ## The body's run -/

theorem firstRun (c : Dev nD) (i : grid0.Coords)
    (M0 : Memref sig .tc .vmem S2x1x1024x512 .i32) (h0 : M0.IsWhole) (M1 : Memref sig .tc .vmem S2x1x1024x128 .f32) (h1 : M1.IsWhole)
    (M2 : Memref sig .tc .vmem S8x1024 .f32) (h2 : M2.IsWhole) (M3 : Memref sig .tc .vmem S1x1024x512 .f32) (h3 : M3.IsWhole)
    (M4 : Memref sig .tc .vmem S1x1024x512 .f32) (h4 : M4.IsWhole) (M5 : Memref sig .tc .vmem S1x512x1024 .f32) (h5 : M5.IsWhole)
    (M7 : Memref sig .tc .vmem S2x1x1024x1024 .bf16) (h7 : M7.IsWhole)
    (M8 : Memref sig .tc .vmem S2048x1024 .f32) (h8 : M8.IsWhole) (M9 : Memref sig .tc .vmem S2048x128 .f32) (h9 : M9.IsWhole)
    (x0 : Vec F S2x1x1024x512 .i32) (x1 : Vec F S2x1x1024x128 .f32) (x2 : Vec F S8x1024 .f32)
    (x3 x4 : Vec F S1x1024x512 .f32) (x5 : Vec F S1x512x1024 .f32) (z : Vec F S2048x1024 .f32) (E : Set ℕ) (K : PUnit → sProp 𝕄) :
        iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare x5
            ∗ (∃ d, owns (c : Thread nD τ) M7 fullShare d) ∗ owns (c : Thread nD τ) M8 fullShare z ∗ (∃ d, owns (c : Thread nD τ) M9 fullShare d)
            ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare x5
            ∗ owns (c : Thread nD τ) M7 fullShare (outNext (tileOf i) (scaleBuf i x1) x0 x2 x3 x4 x5 z) ∗ owns (c : Thread nD τ) M8 fullShare (accNext (tileOf i) x0 x3 x4 x5 z)
              ∗ (∃ d, owns (c : Thread nD τ) M9 fullShare d)) -∗ K ⟨⟩))
          ⊢ wp frame (wpE (defs₀ (F := F)) 𝒱₀ c none) E (cc0_experts i M0 h0 M1 h1 M2 h2 M3 h3 M4 h4 M5 h5 M7 h7 M8 h8 M9 h9) K := by
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%d9, %f9, -, H9⟩, Hk⟩
    obtain rfl := hf0; obtain rfl := hf1; obtain rfl := hf2; obtain rfl := hf3; obtain rfl := hf4; obtain rfl := hf5; obtain rfl := hf8
    sl_unfold [cc0_experts]
    sl_exec!
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H7]
    · iexists _; isplitr; swap; · iexact H7
      ipureintro
      rw [View.read_writes_junk_eq_canon]
      unfold outNext
      refine congrArg View.canon ?_
      delta firstRun.sl.H7_2 firstRun.sl.r_6 firstRun.sl.v70 firstRun.sl.v89
      simp only [View.readCov_eq_canon']
      rfl
    isplitl [H8]
    · iexists _; isplitr; swap; · iexact H8
      ipureintro
      rw [View.read_writes_junk_eq_canon]
      unfold accNext
      refine congrArg View.canon ?_
      rfl
    iexists _, _; isplitr; swap; · iexact H9
    ipureintro; rfl

/-! ## The pipeline's proof data -/

variable (m : (ℓ : Loc nD τ sig) → Buf (Elt F) ℓ) (ρ : Dev nD → PrngReg)

/-- The second grid coordinate of a point is its tile's number. -/
theorem coords_tile : ∀ t : Fin cfg0.N, (tileOf (grid0.coords t)).val = t.val % 4 :=
  (by decide +kernel : ∀ t : Fin grid0.N, (grid0.coords t 1).val = t.val % 4)

/-- The running sums in the scratch when point `n` starts, by recursion on the points. -/
def accAt (c : Dev nD) : ℕ → Vec F S2048x1024 .f32
  | 0 => View.canon []
  | n + 1 => if h : n < cfg0.N then
      accNext (tileOf (grid0.coords ⟨n, h⟩)) (iblk m c 0 ⟨n, h⟩) (iblk m c 3 ⟨n, h⟩) (iblk m c 4 ⟨n, h⟩) (iblk m c 5 ⟨n, h⟩) (accAt c n)
    else View.canon []

theorem accAt_succ (c : Dev nD) (t : Fin cfg0.N) : accAt m c (t.val + 1) =
    accNext (tileOf (grid0.coords t)) (iblk m c 0 t) (iblk m c 3 t) (iblk m c 4 t) (iblk m c 5 t) (accAt m c t.val) := by
  rw [accAt, dif_pos t.isLt]

/-- The result's block that the body leaves at a point. -/
def outAt (c : Dev nD) (t : Fin cfg0.N) : Vec F S2x1x1024x1024 .bf16 :=
  outNext (tileOf (grid0.coords t)) (scaleBuf (grid0.coords t) (iblk m c 1 t)) (iblk m c 0 t) (iblk m c 2 t) (iblk m c 3 t) (iblk m c 4 t) (iblk m c 5 t) (accAt m c t.val)

/-- From the sums that an expert's earlier tiles leave — or, at its first tile, from any contents — the body leaves the next sums, -/
theorem accNext_eq (c : Dev nD) (t : Fin cfg0.N) (z : Vec F S2048x1024 .f32) (hz : t.val % 4 ≠ 0 → z = accAt m c t.val) :
    accNext (tileOf (grid0.coords t)) (iblk m c 0 t) (iblk m c 3 t) (iblk m c 4 t) (iblk m c 5 t) z = accAt m c (t.val + 1) := by
  rw [accAt_succ]
  by_cases h : t.val % 4 = 0
  · unfold accNext; rw [accPieces_first _ _ _ _ _ z ((coords_tile t).trans h) (accAt m c t.val)]
  · rw [hz h]

/-- and the result's block. -/
theorem outNext_eq (c : Dev nD) (t : Fin cfg0.N) (z : Vec F S2048x1024 .f32) (hz : t.val % 4 ≠ 0 → z = accAt m c t.val) :
    outNext (tileOf (grid0.coords t)) (scaleBuf (grid0.coords t) (iblk m c 1 t)) (iblk m c 0 t) (iblk m c 2 t) (iblk m c 3 t) (iblk m c 4 t) (iblk m c 5 t) z = outAt m c t := by
  unfold outAt
  by_cases h : t.val % 4 = 0
  · unfold outNext; rw [outPieces_first _ _ _ _ _ _ _ z ((coords_tile t).trans h) (accAt m c t.val)]
  · rw [hz h]

/-- What the body carries from point to point: the first scratch at the running sums, save before an expert's first tile, when it
    holds anything; the second scratch at anything; the generator's register. -/
def inv (c : Dev nD) (n : ℕ) : sProp 𝕄 :=
  iprop((∃ z, ⌜n % 4 ≠ 0 → z = accAt m c n⌝ ∗ owns (c : Thread nD τ) (Memref.whole cc0_scratch0) fullShare z)
    ∗ (∃ d, owns (c : Thread nD τ) (Memref.whole cc0_scratch1) fullShare d) ∗ ∃ r, prngReg c r)

/-- The arrays as the region finds them; after the body each input's buffer at its block and the result's at `outAt`; the
    invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := inv m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- The library's body obligation: at each point the body's run, its inputs at their blocks and the running sums as `inv` has them. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = inv m c (t.val + 1) from rfl, show (dats m 0 c).Φ t.castSucc = inv m c t.val from rfl,
    show (dats m 0 c).owesAt () t.succ = (dats m 0 c).owesAt () t.castSucc from rfl,
    after0_0, after0_1, after0_2, after0_3, after0_4, after0_5, after0_6]
  unfold inv
  iintro ⟨⟨⟨%z, %hz, HZ⟩, HS, HR⟩, Ho, ⟨%d0, H0⟩, ⟨%d1, H1⟩, ⟨%d2, H2⟩, ⟨%d3, H3⟩, ⟨%d4, H4⟩, ⟨%d5, H5⟩, ⟨%d6, H6⟩⟩
  iapply (firstRun c _ _ _ _ _ _ _ _ _ _ _ _ _ _ _ _ _ _ _ (iblk m c 0 t) (iblk m c 1 t) (iblk m c 2 t) (iblk m c 3 t) (iblk m c 4 t)
    (iblk m c 5 t) z Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HZ]; · iexact HZ
  isplitl [HS]; · iexact HS
  rw [outNext_eq m c t z hz, accNext_eq m c t z hz]
  iintro ⟨H0, H1, H2, H3, H4, H5, H6, HZ, HS⟩
  isplitl [HZ HS HR]
  · isplitl [HZ]
    · iexists _; isplitr; swap; · iexact HZ
      ipureintro; exact fun _ => rfl
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The run and the frame -/

theorem inv_in (c : Dev nD) : ΦA spec0 c ⊢ inv m c 0 := by
  unfold ΦA inv
  rw [scopedRest0_eq]
  simp only [owns_whole]
  iintro ⟨⟨⟨%f, Hf⟩, ⟨%g, Hg⟩⟩, HR⟩
  isplitl [Hf]
  · iexists f; isplitr; · ipureintro; exact fun h => absurd rfl h
    iexact Hf
  isplitl [Hg]; · iexists g; iexact Hg
  iexact HR

theorem inv_out (c : Dev nD) (n : ℕ) : inv m c n ⊢ ΦA spec0 c := by
  unfold ΦA inv
  rw [scopedRest0_eq]
  simp only [owns_whole]
  iintro ⟨⟨%f, -, Hf⟩, ⟨%g, Hg⟩, HR⟩
  isplitl [Hf Hg]
  · isplitl [Hf]; · iexists f; iexact Hf
    iexists g; iexact Hg
  iexact HR

set_option backward.isDefEq.respectTransparency.types false in
/-- At the compiled mesh, for any values, from any memory with zero counters: every weakly fair execution of @main terminates, and
    every final state has each array at what the library computes from the proof data and the line after the call, and every
    semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := inv_in m) (hout := fun c => inv_out m c _)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (dats m) fun _ _ => rfl) (run_main m ρ)

end Cert.FirstIdeal.Hand

end
-- ==== Proof.FirstArray.lean ====
/- The first call's result over the extended reals: the weights' tiles summed to the whole product, the rows of experts 0 and 1
   written, and those rows sliced off. -/
module

public import proofs.«01_k».proof.Proof.Array
public import proofs.«01_k».proof.Proof.FirstBody
public import Idealize.ShloMosaic.Lib.Pipeline.ValueKit.Partial

@[expose] public section

noncomputable section

namespace Cert.FirstIdeal.Hand

open Cert.FirstIdeal Cert.FirstIdeal.Gen Cert.Experts
open Cert.KernelIdeal.Hand (part part_tile sumT prev select_lane outNext_apply accNext_apply)
open Idealize.ShloMosaic Idealize.ShloMosaic.TcCoe

variable (m : (ℓ : Loc nD τ sig) → Buf (Elt Ideal) ℓ) (c : Dev nD)

theorem e2 : 0 + 2 ≤ 16 := by decide

/-! ## The blocks, by the point's expert and tile -/

/-- The expert of a point. -/
def ex (t : Fin cfg0.N) : Fin 2 := ⟨t.val / 4, by have h : t.val < 8 := lt_of_lt_of_eq t.isLt N_0; omega⟩

theorem coords_ex : ∀ t : Fin cfg0.N, (grid0.coords t 0).val = t.val / 4 :=
  (by decide +kernel : ∀ t : Fin grid0.N, (grid0.coords t 0).val = t.val / 4)

theorem index0 : ∀ t : Fin cfg0.N, win0_0.index t = ![0, t.val / 4, 0, 0] := (by decide +kernel : ∀ t : Fin grid0.N, win0_0.index t = ![0, t.val / 4, 0, 0])
theorem index1 : ∀ t : Fin cfg0.N, win0_1.index t = ![0, t.val / 4, 0, 0] := (by decide +kernel : ∀ t : Fin grid0.N, win0_1.index t = ![0, t.val / 4, 0, 0])
theorem index2 : ∀ t : Fin cfg0.N, win0_2.index t = ![0, 5] := (by decide +kernel : ∀ t : Fin grid0.N, win0_2.index t = ![0, 5])
theorem index3 : ∀ t : Fin cfg0.N, win0_3.index t = ![t.val / 4, 0, t.val % 4] := (by decide +kernel : ∀ t : Fin grid0.N, win0_3.index t = ![t.val / 4, 0, t.val % 4])
theorem index4 : ∀ t : Fin cfg0.N, win0_4.index t = ![t.val / 4, 0, t.val % 4] := (by decide +kernel : ∀ t : Fin grid0.N, win0_4.index t = ![t.val / 4, 0, t.val % 4])
theorem index5 : ∀ t : Fin cfg0.N, win0_5.index t = ![t.val / 4, t.val % 4, 0] := (by decide +kernel : ∀ t : Fin grid0.N, win0_5.index t = ![t.val / 4, t.val % 4, 0])
theorem index6 : ∀ t : Fin cfg0.N, win0_6.index t = ![0, t.val / 4, 0, 0] := (by decide +kernel : ∀ t : Fin grid0.N, win0_6.index t = ![0, t.val / 4, 0, 0])

theorem iblk0 (t : Fin cfg0.N) (b : Fin 2) (r : Fin 1024) (l : Fin 512) :
    iblk m c 0 t (ix4 b 0 r l) = m ((c.tc : Thread nD τ).loc main_arg0) (ix4 b (ex t) r l) := by
  unfold iblk
  rw [View.read_apply]
  show V m c main_arg0 _ = _
  rw [V_main_arg0]
  refine congrArg (m _) (funext fun a => Fin.ext ?_)
  match a with
  | 0 => show win0_0.index t 0 * 2 + 1 * b.val = b.val; rw [index0]; show 0 * 2 + 1 * b.val = b.val; omega
  | 1 => show win0_0.index t 1 * 1 + 1 * 0 = t.val / 4; rw [index0]; show t.val / 4 * 1 + 1 * 0 = t.val / 4; omega
  | 2 => show win0_0.index t 2 * 1024 + 1 * r.val = r.val; rw [index0]; show 0 * 1024 + 1 * r.val = r.val; omega
  | 3 => show win0_0.index t 3 * 512 + 1 * l.val = l.val; rw [index0]; show 0 * 512 + 1 * l.val = l.val; omega

theorem iblk1 (t : Fin cfg0.N) (b : Fin 2) (r : Fin 1024) (l : Fin 128) :
    iblk m c 1 t (ix4 b 0 r l) = m ((c.tc : Thread nD τ).loc main_arg1) (ix4 b (ex t) r l) := by
  unfold iblk
  rw [View.read_apply]
  show V m c main_arg1 _ = _
  rw [V_main_arg1]
  refine congrArg (m _) (funext fun a => Fin.ext ?_)
  match a with
  | 0 => show win0_1.index t 0 * 2 + 1 * b.val = b.val; rw [index1]; show 0 * 2 + 1 * b.val = b.val; omega
  | 1 => show win0_1.index t 1 * 1 + 1 * 0 = t.val / 4; rw [index1]; show t.val / 4 * 1 + 1 * 0 = t.val / 4; omega
  | 2 => show win0_1.index t 2 * 1024 + 1 * r.val = r.val; rw [index1]; show 0 * 1024 + 1 * r.val = r.val; omega
  | 3 => show win0_1.index t 3 * 128 + 1 * l.val = l.val; rw [index1]; show 0 * 128 + 1 * l.val = l.val; omega

theorem iblk2 (t : Fin cfg0.N) (b : Fin 8) (k : Fin 1024) :
    iblk m c 2 t (ix2 b k) = m ((c.tc : Thread nD τ).loc main_arg2) (ix2 b ⟨5120 + k.val, by omega⟩) := by
  unfold iblk
  rw [View.read_apply]
  show V m c main_arg2 _ = _
  rw [V_main_arg2]
  refine congrArg (m _) (funext fun a => Fin.ext ?_)
  match a with
  | 0 => show win0_2.index t 0 * 8 + 1 * b.val = b.val; rw [index2]; show 0 * 8 + 1 * b.val = b.val; omega
  | 1 => show win0_2.index t 1 * 1024 + 1 * k.val = 5120 + k.val; rw [index2]; show 5 * 1024 + 1 * k.val = 5120 + k.val; omega

theorem iblk3 (t : Fin cfg0.N) (d : Fin 1024) (j : Fin 512) :
    iblk m c 3 t (ix3 0 d j) = m ((c.tc : Thread nD τ).loc main_arg3) (ix3 (wexp 0 e2 (ex t)) d ⟨t.val % 4 * 512 + j.val, by omega⟩) := by
  unfold iblk
  rw [View.read_apply]
  show V m c main_arg3 _ = _
  rw [V_main_arg3]
  refine congrArg (m _) (funext fun a => Fin.ext ?_)
  match a with
  | 0 => show win0_3.index t 0 * 1 + 1 * 0 = 0 + t.val / 4; rw [index3]; show t.val / 4 * 1 + 1 * 0 = 0 + t.val / 4; omega
  | 1 => show win0_3.index t 1 * 1024 + 1 * d.val = d.val; rw [index3]; show 0 * 1024 + 1 * d.val = d.val; omega
  | 2 => show win0_3.index t 2 * 512 + 1 * j.val = t.val % 4 * 512 + j.val; rw [index3]; show t.val % 4 * 512 + 1 * j.val = _; omega

theorem iblk4 (t : Fin cfg0.N) (d : Fin 1024) (j : Fin 512) :
    iblk m c 4 t (ix3 0 d j) = m ((c.tc : Thread nD τ).loc main_arg4) (ix3 (wexp 0 e2 (ex t)) d ⟨t.val % 4 * 512 + j.val, by omega⟩) := by
  unfold iblk
  rw [View.read_apply]
  show V m c main_arg4 _ = _
  rw [V_main_arg4]
  refine congrArg (m _) (funext fun a => Fin.ext ?_)
  match a with
  | 0 => show win0_4.index t 0 * 1 + 1 * 0 = 0 + t.val / 4; rw [index4]; show t.val / 4 * 1 + 1 * 0 = 0 + t.val / 4; omega
  | 1 => show win0_4.index t 1 * 1024 + 1 * d.val = d.val; rw [index4]; show 0 * 1024 + 1 * d.val = d.val; omega
  | 2 => show win0_4.index t 2 * 512 + 1 * j.val = t.val % 4 * 512 + j.val; rw [index4]; show t.val % 4 * 512 + 1 * j.val = _; omega

theorem iblk5 (t : Fin cfg0.N) (j : Fin 512) (k : Fin 1024) :
    iblk m c 5 t (ix3 0 j k) = m ((c.tc : Thread nD τ).loc main_arg5) (ix3 (wexp 0 e2 (ex t)) ⟨t.val % 4 * 512 + j.val, by omega⟩ k) := by
  unfold iblk
  rw [View.read_apply]
  show V m c main_arg5 _ = _
  rw [V_main_arg5]
  refine congrArg (m _) (funext fun a => Fin.ext ?_)
  match a with
  | 0 => show win0_5.index t 0 * 1 + 1 * 0 = 0 + t.val / 4; rw [index5]; show t.val / 4 * 1 + 1 * 0 = 0 + t.val / 4; omega
  | 1 => show win0_5.index t 1 * 512 + 1 * j.val = t.val % 4 * 512 + j.val; rw [index5]; show t.val % 4 * 512 + 1 * j.val = _; omega
  | 2 => show win0_5.index t 2 * 1024 + 1 * k.val = k.val; rw [index5]; show 0 * 1024 + 1 * k.val = k.val; omega

/-! ## The sums over an expert's tiles -/

/-- Tile `f`'s part of a row's product, of the arguments as launched. -/
abbrev tileM (e : Fin 2) (b : Fin 2) (r q : Fin 1024) (f : Fin 4) : EReal :=
  tile 0 e2 (m ((c.tc : Thread nD τ).loc main_arg0)) (m ((c.tc : Thread nD τ).loc main_arg3)) (m ((c.tc : Thread nD τ).loc main_arg4))
    (m ((c.tc : Thread nD τ).loc main_arg5)) e b r q f

/-- What a point adds to a row's sum is its tile's. -/
theorem part_iblk (t : Fin cfg0.N) (b : Fin 2) (r q : Fin 1024) :
    part (iblk m c 3 t) (iblk m c 4 t) (iblk m c 5 t) (fun l => iblk m c 0 t (ix4 b 0 r l)) q
      = tileM m c (ex t) b r q ⟨t.val % 4, by omega⟩ :=
  part_tile 0 e2 _ _ _ _ (ex t) ⟨t.val % 4, by omega⟩ b r q _ _ _ _ (iblk0 m c t b r) (iblk3 m c t) (iblk4 m c t) (iblk5 m c t)

/-- A row's sum after a point: its tiles' up to the point's. -/
theorem sumT_iblk (e : Fin 2) (f : ℕ) (hf : f < 4) (ht : 4 * e.val + f < cfg0.N) (b : Fin 2) (r q : Fin 1024) :
    sumT (tileOf (grid0.coords ⟨4 * e.val + f, ht⟩)) (iblk m c 0 ⟨4 * e.val + f, ht⟩) (iblk m c 3 ⟨4 * e.val + f, ht⟩) (iblk m c 4 ⟨4 * e.val + f, ht⟩)
      (iblk m c 5 ⟨4 * e.val + f, ht⟩) (accAt m c (4 * e.val + f)) b r q
      = ∑ g : Fin (f + 1), tileM m c e b r q ⟨g.val, by omega⟩ := by
  have ee : ex ⟨4 * e.val + f, ht⟩ = e := Fin.ext (by show (4 * e.val + f) / 4 = e.val; omega)
  have ef : (⟨(4 * e.val + f) % 4, by omega⟩ : Fin 4) = ⟨f, hf⟩ := Fin.ext (by show (4 * e.val + f) % 4 = f; omega)
  induction f with
  | zero =>
    unfold sumT prev
    rw [part_iblk, ee, if_pos ((coords_tile _).trans (by show (4 * e.val + 0) % 4 = 0; omega)), zero_add, Fin.sum_univ_one]
    exact congrArg (tileM m c e b r q) ef
  | succ f ih =>
    have ht' : 4 * e.val + f < cfg0.N := by omega
    unfold sumT prev
    rw [part_iblk, ee, if_neg (fun h => by
        have h2 : (4 * e.val + (f + 1)) % 4 = 0 := (coords_tile _).symm.trans h
        omega), Fin.sum_univ_castSucc]
    refine congrArg₂ (· + ·) ?_ (congrArg (tileM m c e b r q) ef)
    rw [show accAt m c (4 * e.val + (f + 1)) = _ from accAt_succ m c ⟨4 * e.val + f, ht'⟩, accNext_apply]
    exact ih (by omega) ht' (Fin.ext (by show (4 * e.val + f) / 4 = e.val; omega)) (Fin.ext (by show (4 * e.val + f) % 4 = f; omega))

/-! ## The affinity's lane -/

theorem lane_word : ∀ e : Fin 2, Scalar.addi (0#32) (BitVec.ofNat 32 e.val) = BitVec.ofNat 32 (0 + e.val) := by decide +kernel

/-- The lane of a point's affinities. -/
def laneOf (i : grid0.Coords) : Fin 128 := ⟨0 + (i 0).val, by have h : (i 0).val < 2 := (i 0).isLt; omega⟩

theorem scaleBuf_apply (i : grid0.Coords) (x1 : Vec Ideal S2x1x1024x128 .f32) (r : Fin 2048) (l : Fin 128) : scaleBuf i x1 (ix2 r l)
    = x1 (ix4 ⟨r.val / 1024, by omega⟩ 0 ⟨r.val % 1024, by omega⟩ (laneOf i)) := by
  unfold scaleBuf
  rw [View.canon_unit_zero (by funext a; match a with | 0 => rfl | 1 => rfl)]
  pointwise [k0_pay5]
  rw [lane_word (i 0)]
  exact select_lane (laneOf i) _

/-! ## The array -/

/-- At an expert's last tile the body leaves its output. -/
theorem outAt_last (t : Fin cfg0.N) (h : t.val % 4 = 3) (b : Fin 2) (r q : Fin 1024) : outAt m c t (ix4 b 0 r q)
    = out 0 e2 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) b (ex t) r q := by
  unfold outAt out
  rw [outNext_apply _ _ _ _ _ _ _ _ (fun b r => iblk m c 1 t (ix4 b 0 r (laneOf (grid0.coords t)))) (scaleBuf_apply (grid0.coords t) (iblk m c 1 t)), iblk1, iblk2]
  have e : t = ⟨4 * (ex t).val + 3, by have := t.isLt; show 4 * (t.val / 4) + 3 < _; omega⟩ := Fin.ext (by show t.val = 4 * (t.val / 4) + 3; omega)
  refine congrArg₂ (· * ·) (congrArg₂ (· * ·) ?_ (congrArg (fun x => m ((c.tc : Thread nD τ).loc main_arg1) (ix4 b (ex t) r x))
    (Fin.ext (by show 0 + (grid0.coords t 0).val = 0 + t.val / 4; rw [coords_ex])))) rfl
  refine Eq.trans ?_ ((sumT_iblk m c (ex t) 3 (by omega) (by have := t.isLt; show 4 * (t.val / 4) + 3 < _; omega) b r q).trans (tile_sum 0 e2 _ _ _ _ (ex t) b r q))
  exact congrArg (fun s : Fin cfg0.N => sumT (tileOf (grid0.coords s)) (iblk m c 0 s) (iblk m c 3 s) (iblk m c 4 s) (iblk m c 5 s) (accAt m c s.val) b r q) e

/-- The function, of the arguments as launched. -/
abbrev res : S2x2x1024x1024.Idx → EReal :=
  resultFirst (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The function at an expert of the call, anything at the others. -/
def onArray : S2x16x1024x1024.Idx → EReal := fun i =>
  if h : (i 1).val < 2 then res m c (ix4 (i 0) ⟨(i 1).val, h⟩ (i 2) (i 3)) else 0

/-- The array after the run, at the experts that the call writes. -/
theorem written (i : S2x16x1024x1024.Idx) (h : (i 1).val < 2) : (dats m 0 c).arrAt 6 cfg0.N i = onArray m c i := by
  have hi : (i 1).val / 1 < 2 := by omega
  refine (congrFun ((dats m 0 c).arrAt_eq_of_coversWhere 6 (onArray m c) (P := fun i => (i 1 : ℕ) / 1 < 2) (fun β => β (1 : Fin _) < 2) (by decide +kernel)
    (fun t hf y => ?_) (fun j => Iff.rfl)) i).trans (if_pos hi)
  rw [after0_6]
  obtain ⟨b, z, r, q, rfl⟩ : ∃ b z r q, y = ix4 b z r q := ⟨y 0, y 1, y 2, y 3, by funext a; match a with | 0 => rfl | 1 => rfl | 2 => rfl | 3 => rfl⟩
  obtain rfl : z = 0 := Subsingleton.elim _ _
  blk_simp
  refine (outAt_last m c t ((flush0_6 t).mp hf) b r q).trans ?_
  have e : ((cfg0.win 6).blk t).view.emb (ix4 b 0 r q) = ix4 b ⟨(ex t).val, by omega⟩ r q := by
    funext a
    match a with
    | 0 => exact Fin.ext (by show win0_6.index t 0 * 2 + 1 * b.val = b.val; rw [index6]; show 0 * 2 + 1 * b.val = b.val; omega)
    | 1 => exact Fin.ext (by show win0_6.index t 1 * 1 + 1 * 0 = t.val / 4; rw [index6]; show t.val / 4 * 1 + 1 * 0 = t.val / 4; omega)
    | 2 => exact Fin.ext (by show win0_6.index t 2 * 1024 + 1 * r.val = r.val; rw [index6]; show 0 * 1024 + 1 * r.val = r.val; omega)
    | 3 => exact Fin.ext (by show win0_6.index t 3 * 1024 + 1 * q.val = q.val; rw [index6]; show 0 * 1024 + 1 * q.val = q.val; omega)
  rw [e]
  exact Eq.symm ((dif_pos (ex t).isLt).trans rfl)

/-- The result: the rows sliced off the array are the function's. -/
theorem final : Pipeline.afterTail₀ cfgs (dats m) 0 (V0 m) [hostOps1] c main_v1 = res m c := by
  unfold Pipeline.afterTail₀
  have e : StableHlo.after ([hostOps1].flatten) (Pipeline.withArrays (cfgs 0).spec c (V0 m c) fun w => (dats m 0 c).arrAt w (cfgs 0).N) (Proc.devRef .tc main_v1)
      = extractStridedSlice S2x2x1024x1024 ![0, 0, 0, 0] ((dats m 0 c).arrAt 6 cfg0.N) slices_S2x16x1024x1024_S2x2x1024x1024_0_0_0_0 := by
    rw [List.flatten_singleton, StableHlo.after_cons, StableHlo.after_nil]
    after_results
    exact congrArg (fun y => extractStridedSlice S2x2x1024x1024 ![0, 0, 0, 0] y slices_S2x16x1024x1024_S2x2x1024x1024_0_0_0_0)
      (Pipeline.withArrays_arr spec0 launch0.win.arr_inj c (V0 m c) _ 6)
  rw [e]
  funext i
  obtain ⟨b, x, r, q, rfl⟩ : ∃ b x r q, i = ix4 b x r q := ⟨i 0, i 1, i 2, i 3, by funext a; match a with | 0 => rfl | 1 => rfl | 2 => rfl | 3 => rfl⟩
  pointwise
  refine (written m c _ ?_).trans ?_
  · exact x.isLt
  · exact dif_pos x.isLt

end Cert.FirstIdeal.Hand

end
-- ==== Proof.FirstRef.lean ====
/- The first call's reference's result, read at an index over the extended reals. -/
module

public import proofs.«01_k».proof.Proof.Gen.FirstReferenceIdeal.Run
public import proofs.«01_k».proof.Proof.Spec
public import Idealize.ShloMosaic.Lib.Pointwise
public import Idealize.ShloMosaic.Lib.BitcastConvert

@[expose] public section

noncomputable section

namespace Cert.FirstReferenceIdeal.Hand

open Cert.FirstReferenceIdeal Cert.FirstReferenceIdeal.Gen Cert.FirstReferenceIdeal.Value Cert.Experts
open Idealize.ShloMosaic Idealize.ShloMosaic.TcCoe

variable (m : (ℓ : Loc nD τ sig) → Buf (Elt Ideal) ℓ) (c : Dev nD)

theorem e2 : 0 + 2 ≤ 16 := by decide

/-- A half word's position, its word's. -/
theorem drop_word (b : Fin 2) (e : Fin 2) (r : Fin 1024) (j : Fin 512) (h : Fin 2) :
    Gen.splits_S2x2x1024x512_w32_S2x2x1024x512x2_w16.drop (ix5 b e r j h) = ix4 b e r j := by
  funext a
  match a with
  | 0 => rfl
  | 1 => rfl
  | 2 => rfl
  | 3 => rfl

/-- The reference's tokens, of the words. -/
def refTok : FVec Ideal S2x2x1024x1024 .f32 :=
  extf .f32 (shapeCast _ (transpose S2x2x1024x2x512 [0, 1, 2, 4, 3] (bitcastToFloat (F := Ideal) .bf16
    (Host.bitcastConvertNarrow S2x2x1024x512x2 16 (m ((c.tc : Thread nD τ).loc main_arg0)) splits_S2x2x1024x512_w32_S2x2x1024x512x2_w16))
      transposes_S2x2x1024x512x2_S2x2x1024x2x512_0_1_2_4_3) shapeCasts_S2x2x1024x2x512_S2x2x1024x1024) bitsLt_bf16_f32

/-- A projection of them. -/
def refProj (W : FVec Ideal S16x1024x2048 .f32) : FVec Ideal S2x2x1024x2048 .f32 :=
  transpose S2x2x1024x2048 [2, 0, 3, 1] (Host.dotGeneral (φ₁ := .f32) (φ₂ := .f32) dot_S2x1024x2048_S2x2x1024x1024_S2x2048x2x1024_1_3_2_02_0_1 none
    (extractStridedSlice S2x1024x2048 ![0, 0, 0] W slices_S16x1024x2048_S2x1024x2048_0_0_0) (refTok m c)) transposes_S2x2048x2x1024_S2x2x1024x2048_2_0_3_1

/-- The hidden units. -/
def refHid : FVec Ideal S2x2x1024x2048 .f32 :=
  mulf (mulf (refProj m c (m ((c.tc : Thread nD τ).loc main_arg3)))
    (Host.divf (broadcastInDim S2x2x1024x2048 ![] bcast_S_S2x2x1024x2048 (constant S_ .f32 0x3F800000#32))
      (addf (broadcastInDim S2x2x1024x2048 ![] bcast_S_S2x2x1024x2048 (constant S_ .f32 0x3F800000#32))
        (Host.exp (Host.negf (refProj m c (m ((c.tc : Thread nD τ).loc main_arg3))))))))
    (refProj m c (m ((c.tc : Thread nD τ).loc main_arg4)))

/-- The affinities, repeated over the columns. -/
def refVals : FVec Ideal S2x2x1024x1024 .f32 :=
  broadcastInDim S2x2x1024x1024 ![0, 1, 2, 3] bcast_S2x2x1024x1_S2x2x1024x1024_0_1_2_3
    (broadcastInDim S2x2x1024x1 ![0, 1, 2] bcast_S2x2x1024_S2x2x1024x1_0_1_2 (concatenate S2x2x1024 1
      [⟨S2x1x1024, (broadcastInDim S2x1x1024 ![0, 2] bcast_S2x1024_S2x1x1024_0_2 (shapeCast _
        (extractStridedSlice S2x1x1024x1 ![0, 0, 0, 0] (m ((c.tc : Thread nD τ).loc main_arg1)) slices_S2x2x1024x128_S2x1x1024x1_0_0_0_0) shapeCasts_S2x1x1024x1_S2x1024))⟩,
       ⟨S2x1x1024, (broadcastInDim S2x1x1024 ![0, 2] bcast_S2x1024_S2x1x1024_0_2 (shapeCast _
        (extractStridedSlice S2x1x1024x1 ![0, 1, 0, 1] (m ((c.tc : Thread nD τ).loc main_arg1)) slices_S2x2x1024x128_S2x1x1024x1_0_1_0_1) shapeCasts_S2x1x1024x1_S2x1024))⟩]
      concatenates_S2x1x1024_S2x1x1024_S2x2x1024_d1))

/-- The gated rows: the reference's result. -/
def refRows : FVec Ideal S2x2x1024x1024 .bf16 :=
  truncf .bf16 (mulf (mulf (transpose S2x2x1024x1024 [2, 0, 3, 1] (Host.dotGeneral (φ₁ := .f32) (φ₂ := .f32) dot_S2x2048x1024_S2x2x1024x2048_S2x1024x2x1024_1_3_2_02_0_1 none
      (extractStridedSlice S2x2048x1024 ![0, 0, 0] (m ((c.tc : Thread nD τ).loc main_arg5)) slices_S16x2048x1024_S2x2048x1024_0_0_0) (refHid m c))
      transposes_S2x1024x2x1024_S2x2x1024x1024_2_0_3_1) (refVals m c))
    (broadcastInDim S2x2x1024x1024 ![0, 1, 2, 3] bcast_S2x1x1x1024_S2x2x1024x1024_0_1_2_3 (broadcastInDim S2x1x1x1024 ![0, 3] bcast_S2x1024_S2x1x1x1024_0_3
      (extractStridedSlice S2x1024 ![0, 5120] (m ((c.tc : Thread nD τ).loc main_arg2)) slices_S8x6144_S2x1024_0_5120)))) bitsLt_bf16_f32

/-- Its tokens are the function's. -/
theorem refTok_apply (b e : Fin 2) (r d : Fin 1024) : refTok m c (ix4 b e r d) = tok (m ((c.tc : Thread nD τ).loc main_arg0)) b e r d := by
  unfold refTok
  pointwise
  simp only [drop_word]
  rfl

/-- Its projections are the function's. -/
theorem refProj_apply (W : S16x1024x2048.Idx → EReal) (b e : Fin 2) (r : Fin 1024) (k : Fin 2048) :
    refProj m c W (ix4 b e r k) = proj 0 e2 (m ((c.tc : Thread nD τ).loc main_arg0)) W b e r k := by
  unfold refProj proj
  pointwise
  refine Finset.sum_congr rfl fun x _ => ?_
  refine (mul_comm (G := EReal) _ _).trans (congrArg₂ (· * ·) (refTok_apply m c b e r x) ?_)
  refine congrArg W (funext fun a => Fin.ext ?_)
  match a with
  | 0 => exact (Nat.zero_add _).symm
  | 1 => rfl
  | 2 => rfl

/-- Its hidden units are the function's. -/
theorem refHid_apply (b e : Fin 2) (r : Fin 1024) (k : Fin 2048) :
    refHid m c (ix4 b e r k) = hid 0 e2 (m ((c.tc : Thread nD τ).loc main_arg0)) (m ((c.tc : Thread nD τ).loc main_arg3)) (m ((c.tc : Thread nD τ).loc main_arg4)) b e r k := by
  unfold refHid hid
  pointwise
  rw [refProj_apply, refProj_apply]
  rfl

/-- Its affinities are the function's. -/
theorem refVals_apply (b e : Fin 2) (r q : Fin 1024) : refVals m c (ix4 b e r q) = m ((c.tc : Thread nD τ).loc main_arg1) (ix4 b e r ⟨0 + e.val, by omega⟩) := by
  unfold refVals
  pointwise
  fin_cases e <;> rfl

/-- The reference's result is the function, expert by expert. -/
theorem out_apply (b e : Fin 2) (r q : Fin 1024) :
    refRows m c (ix4 b e r q)
    = out 0 e2 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) b e r q := by
  unfold refRows
  pointwise
  unfold out term
  refine congrArg (· * _) (congrArg₂ (· * ·) (Finset.sum_congr rfl fun k _ => ?_) (refVals_apply m c b e r q))
  refine (mul_comm (G := EReal) _ _).trans (congrArg₂ (· * ·) (refHid_apply m c b e r k) ?_)
  refine congrArg (m ((c.tc : Thread nD τ).loc main_arg5)) (funext fun a => Fin.ext ?_)
  match a with
  | 0 => exact (Nat.zero_add _).symm
  | 1 => rfl
  | 2 => rfl

/-- The reference's result is the function. -/
theorem res_eq : refRows m c
    = resultFirst (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  funext i
  obtain ⟨b, e, r, q, rfl⟩ : ∃ b e r q, i = ix4 b e r q := ⟨i 0, i 1, i 2, i 3, by funext a; match a with | 0 => rfl | 1 => rfl | 2 => rfl | 3 => rfl⟩
  exact out_apply m c b e r q

end Cert.FirstReferenceIdeal.Hand

end
-- ==== Proof.AdaRef.lean ====
/- The modulation and the rounded weights as functions of the arguments, and that the reference's two results are these. -/
module

public import proofs.«01_k».proof.Proof.Gen.AdaReferenceIdeal.Run
public import proofs.«01_k».proof.Proof.Spec
public import Idealize.ShloMosaic.Lib.Pointwise

@[expose] public section

noncomputable section

namespace Cert.Modulation

open Cert.AdaReferenceIdeal Cert.Experts Idealize.ShloMosaic

/-- The modulation's column `q` of batch `b`: the activated conditioning times the weights' column, and the bias. -/
def modulation (x : S2x1024.Idx → EReal) (w : S1024x6144.Idx → EReal) (v : S6144.Idx → EReal) : S2x6144.Idx → EReal := fun i =>
  (∑ d : Fin 1024, x (ix2 (i 0) d) * Ideal.logistic (x (ix2 (i 0) d)) * w (ix2 d (i 1))) + v (ix1 (i 1))

/-- The first 3584 columns of the input projection's weights. -/
def columns (w : S1024x5632.Idx → EReal) : S1024x3584.Idx → EReal := fun i => w (ix2 (i 0) ⟨(i 1).val, lt_trans (i 1).isLt (by decide)⟩)

end Cert.Modulation

namespace Cert.AdaReferenceIdeal.Hand

open Cert.AdaReferenceIdeal Cert.AdaReferenceIdeal.Gen Cert.AdaReferenceIdeal.Value Cert.Experts Cert.Modulation
open Idealize.ShloMosaic Idealize.ShloMosaic.TcCoe

/-- The reference's modulation, of its arguments. -/
def refMod (x : FVec Ideal S2x1024 .f32) (w : FVec Ideal S1024x6144 .f32) (v : FVec Ideal S6144 .f32) : FVec Ideal S2x6144 .f32 :=
  addf (Host.dotGeneral (φ₁ := .f32) (φ₂ := .f32) dot_S2x1024_S1024x6144_S2x6144_1_0_0_1_n_n none
      (mulf x (Host.divf (broadcastInDim S2x1024 ![] bcast_S_S2x1024 (constant S_ .f32 0x3F800000#32))
        (addf (broadcastInDim S2x1024 ![] bcast_S_S2x1024 (constant S_ .f32 0x3F800000#32)) (Host.exp (Host.negf x))))) w)
    (broadcastInDim S2x6144 ![0, 1] bcast_S1x6144_S2x6144_0_1 (broadcastInDim S1x6144 ![1] bcast_S6144_S1x6144_1 v))

/-- The reference's rounded weights, of its argument. -/
def refCast (w : FVec Ideal S1024x5632 .f32) : FVec Ideal S1024x3584 .bf16 :=
  truncf .bf16 (extractStridedSlice S1024x3584 ![0, 0] w slices_S1024x5632_S1024x3584_0_0) bitsLt_bf16_f32

/-- The reference's modulation is the function. -/
theorem refMod_eq (x : FVec Ideal S2x1024 .f32) (w : FVec Ideal S1024x6144 .f32) (v : FVec Ideal S6144 .f32) :
    refMod x w v = modulation x w v := by
  funext i
  obtain ⟨b, q, rfl⟩ : ∃ b q, i = ix2 b q := ⟨i 0, i 1, by funext a; match a with | 0 => rfl | 1 => rfl⟩
  unfold refMod
  pointwise
  unfold modulation
  rfl

/-- The reference's rounded weights are the columns: rounding is the identity on the extended reals. -/
theorem refCast_eq (w : FVec Ideal S1024x5632 .f32) : refCast w = columns w := by
  funext i
  obtain ⟨b, q, rfl⟩ : ∃ b q, i = ix2 b q := ⟨i 0, i 1, by funext a; match a with | 0 => rfl | 1 => rfl⟩
  unfold refCast
  pointwise
  rfl

end Cert.AdaReferenceIdeal.Hand

end
-- ==== Proof.AdaArray.lean ====
/- The modulation call's two results over the extended reals: what the host prepares, the blocks, what the body computes of them,
   and the arrays that the blocks tile. -/
module

public import proofs.«01_k».proof.Proof.Gen.AdaIdeal.Frame
public import proofs.«01_k».proof.Proof.AdaRef
public import Idealize.ShloMosaic.Lib.Pipeline.ValueKit

@[expose] public section

noncomputable section

namespace Cert.AdaIdeal.Hand

open Cert.AdaIdeal Cert.AdaIdeal.Gen Cert.Experts Cert.Modulation
open Idealize.ShloMosaic Idealize.ShloMosaic.TcCoe

/-! ## The body -/

/-- A row of the modulation's block: the activated conditioning's lane times the weights' block, and the bias. -/
theorem mod_apply (x0 : Vec Ideal S1024x128 .f32) (x1 : Vec Ideal S1024x768 .f32) (x2 : Vec Ideal S1x768 .f32) (x3 x4 x5 x6 x7 x8 x9 : Vec Ideal S128x512 .f32)
    (b : Fin 2) (q : Fin 768) : out0_10 x0 x1 x2 x3 x4 x5 x6 x7 x8 x9 (ix2 ⟨b.val, by omega⟩ q)
      = (∑ d : Fin 1024, x0 (ix2 d ⟨b.val, by omega⟩) * Ideal.logistic (x0 (ix2 d ⟨b.val, by omega⟩)) * x1 (ix2 d q)) + x2 (ix2 0 q) := by
  unfold out0_10
  rw [View.canon_unit_zero (by funext a; match a with | 0 => rfl | 1 => rfl)]
  match b with
  | 0 => pointwise [k0_pay2]
  | 1 => pointwise [k0_pay2]

/-- The block of rounded weights is the seven blocks side by side. -/
theorem cast_apply (x0 : Vec Ideal S1024x128 .f32) (x1 : Vec Ideal S1024x768 .f32) (x2 : Vec Ideal S1x768 .f32) (x3 x4 x5 x6 x7 x8 x9 : Vec Ideal S128x512 .f32)
    (w : Fin 128 → ℕ → EReal) (h3 : ∀ r (l : Fin 512), x3 (ix2 r l) = w r (0 * 512 + l.val)) (h4 : ∀ r (l : Fin 512), x4 (ix2 r l) = w r (1 * 512 + l.val))
    (h5 : ∀ r (l : Fin 512), x5 (ix2 r l) = w r (2 * 512 + l.val)) (h6 : ∀ r (l : Fin 512), x6 (ix2 r l) = w r (3 * 512 + l.val))
    (h7 : ∀ r (l : Fin 512), x7 (ix2 r l) = w r (4 * 512 + l.val)) (h8 : ∀ r (l : Fin 512), x8 (ix2 r l) = w r (5 * 512 + l.val))
    (h9 : ∀ r (l : Fin 512), x9 (ix2 r l) = w r (6 * 512 + l.val)) (r : Fin 128) (q : Fin 3584) :
    out0_11 x0 x1 x2 x3 x4 x5 x6 x7 x8 x9 (ix2 r q) = w r q.val := by
  unfold out0_11
  rw [View.canon_unit_zero (by funext a; match a with | 0 => rfl | 1 => rfl)]
  pointwise [k0_pay1]
  simp only [h3, h4, h5, h6, h7, h8, h9]
  split_ifs <;> exact congrArg (w r) (by omega)

/-! ## What the host prepares -/

variable (m : (ℓ : Loc nD τ sig) → Buf (Elt Ideal) ℓ) (c : Dev nD)

/-- The conditioning, transposed and padded to the lanes. -/
def padded (x : FVec Ideal S2x1024 .f32) : FVec Ideal S1024x128 .f32 :=
  pad S1024x128 ![0, 0] ![0, 126] ![0, 0] (transpose S1024x2 [1, 0] x transposes_S2x1024_S1024x2_1_0)
    (sitofp (F := Ideal) .f32 (constantI S_ 32 0#32)) pads_S1024x2_S1024x128_000_01260 h_S_

/-- Its lanes of the two batches. -/
theorem padded_apply (x : FVec Ideal S2x1024 .f32) (d : Fin 1024) (b : Fin 2) : padded x (ix2 d ⟨b.val, by omega⟩) = x (ix2 b d) := by
  unfold padded
  match b with
  | 0 => pointwise
  | 1 => pointwise

/-- A row of one reads its vector. -/
theorem row_apply (x : FVec Ideal S6144 .f32) (q : Fin 6144) : shapeCast S1x6144 x shapeCasts_S6144_S1x6144 (ix2 0 q) = x (ix1 q) := by
  pointwise

/-- The region finds the conditioning so, -/
theorem V_cond : V m c main_v1 = padded (m ((c.tc : Thread nD τ).loc main_arg0)) := by
  show StableHlo.after _ _ _ = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

/-- and the bias as a row. -/
theorem V_bias : V m c main_v2 = (shapeCast S1x6144 (m ((c.tc : Thread nD τ).loc main_arg2) : FVec Ideal S6144 .f32) shapeCasts_S6144_S1x6144 : FVec Ideal S1x6144 .f32) := by
  show StableHlo.after _ _ _ = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results
  rfl

/-! ## The blocks -/

/-- Each window's block at a point. -/
theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index10 : ∀ t : Fin cfg0.N, win0_10.index t = ![0, t.val] := (by decide +kernel : ∀ t : Fin grid0.N, win0_10.index t = ![0, t.val])
theorem index11 : ∀ t : Fin cfg0.N, win0_11.index t = ![t.val, 0] := (by decide +kernel : ∀ t : Fin grid0.N, win0_11.index t = ![t.val, 0])

/-- The conditioning's lanes of the two batches, at any point. -/
theorem iblk0 (t : Fin cfg0.N) (d : Fin 1024) (b : Fin 2) :
    iblk m c 0 t (ix2 d ⟨b.val, by omega⟩) = m ((c.tc : Thread nD τ).loc main_arg0) (ix2 b d) := by
  unfold iblk
  rw [View.read_apply]
  refine Eq.trans ?_ (padded_apply (m ((c.tc : Thread nD τ).loc main_arg0)) d b)
  show V m c main_v1 _ = _
  rw [V_cond]
  refine congrArg (padded _) (funext fun a => Fin.ext ?_)
  match a with
  | 0 => show win0_0.index t 0 * 1024 + 1 * d.val = d.val; rw [index0]; show 0 * 1024 + 1 * d.val = d.val; omega
  | 1 => show win0_0.index t 1 * 128 + 1 * b.val = b.val; rw [index0]; show 0 * 128 + 1 * b.val = b.val; omega

theorem lt8 (t : Fin cfg0.N) : t.val < 8 := lt_of_lt_of_eq t.isLt N_0

/-- A column of a point's block, in the array. -/
def colOf (t : Fin cfg0.N) (q : Fin 768) : Fin 6144 := ⟨t.val * 768 + q.val, by have := lt8 t; omega⟩

/-- A row of a point's block, in the array. -/
def rowOf (t : Fin cfg0.N) (r : Fin 128) : Fin 1024 := ⟨t.val * 128 + r.val, by have := lt8 t; omega⟩

/-- The weights' block at a point. -/
theorem iblk1 (t : Fin cfg0.N) (d : Fin 1024) (q : Fin 768) :
    iblk m c 1 t (ix2 d q) = m ((c.tc : Thread nD τ).loc main_arg1) (ix2 d (colOf t q)) := by
  unfold iblk
  rw [View.read_apply]
  show V m c main_arg1 _ = _
  rw [V_main_arg1]
  refine congrArg (m _) (funext fun a => Fin.ext ?_)
  match a with
  | 0 => show win0_1.index t 0 * 1024 + 1 * d.val = d.val; rw [index1]; show 0 * 1024 + 1 * d.val = d.val; omega
  | 1 => show win0_1.index t 1 * 768 + 1 * q.val = t.val * 768 + q.val; rw [index1]; show t.val * 768 + 1 * q.val = _; omega

/-- The bias's block at a point. -/
theorem iblk2 (t : Fin cfg0.N) (q : Fin 768) :
    iblk m c 2 t (ix2 0 q) = m ((c.tc : Thread nD τ).loc main_arg2) (ix1 (colOf t q)) := by
  unfold iblk
  rw [View.read_apply]
  refine Eq.trans ?_ (row_apply (m ((c.tc : Thread nD τ).loc main_arg2)) (colOf t q))
  show V m c main_v2 _ = _
  rw [V_bias]
  refine congrArg (shapeCast S1x6144 _ _) (funext fun a => Fin.ext ?_)
  match a with
  | 0 => show win0_2.index t 0 * 1 + 1 * 0 = 0; rw [index2]; rfl
  | 1 => show win0_2.index t 1 * 768 + 1 * q.val = t.val * 768 + q.val; rw [index2]; show t.val * 768 + 1 * q.val = _; omega

/-- The input projection's weights at a row and a column's number; past the last column, anything. -/
def wAt (r : Fin 1024) (n : ℕ) : EReal := if h : n < 5632 then m ((c.tc : Thread nD τ).loc main_arg3) (ix2 r ⟨n, h⟩) else 0

/-- An element of the weights by the two numbers of its place. -/
theorem w_at (i : S1024x5632.Idx) (ix : Fin 2 → ℕ) (t : Fin cfg0.N) (k : ℕ) (hix : ix = ![t.val, k]) (r : Fin 128) (l : Fin 512)
    (h0 : (i 0).val = ix 0 * 128 + 1 * r.val) (h1 : (i 1).val = ix 1 * 512 + 1 * l.val) :
    V m c main_arg3 i = wAt m c (rowOf t r) (k * 512 + l.val) := by
  subst hix
  have e0 : (i 0).val = t.val * 128 + 1 * r.val := h0
  have e1 : (i 1).val = k * 512 + 1 * l.val := h1
  have hk : k * 512 + l.val < 5632 := by have h : (i 1).val < 5632 := (i 1).isLt; omega
  rw [V_main_arg3]
  unfold wAt
  rw [dif_pos hk]
  refine congrArg (m _) (funext fun a => Fin.ext ?_)
  match a with
  | 0 => show (i 0).val = t.val * 128 + r.val; omega
  | 1 => show (i 1).val = k * 512 + l.val; omega

/-- The seven windows on the input projection's weights: each its own columns, all the point's rows. -/
theorem indexW : ∀ t : Fin cfg0.N, (win0_3.index t = ![t.val, 0] ∧ win0_4.index t = ![t.val, 1] ∧ win0_5.index t = ![t.val, 2] ∧ win0_6.index t = ![t.val, 3])
    ∧ win0_7.index t = ![t.val, 4] ∧ win0_8.index t = ![t.val, 5] ∧ win0_9.index t = ![t.val, 6] :=
  (by decide +kernel : ∀ t : Fin grid0.N, (win0_3.index t = ![t.val, 0] ∧ win0_4.index t = ![t.val, 1] ∧ win0_5.index t = ![t.val, 2] ∧ win0_6.index t = ![t.val, 3])
    ∧ win0_7.index t = ![t.val, 4] ∧ win0_8.index t = ![t.val, 5] ∧ win0_9.index t = ![t.val, 6])

/-- The rounded weights' block at a point. -/
theorem cast_iblk (t : Fin cfg0.N) (r : Fin 128) (q : Fin 3584) :
    (dats m 0 c).after 11 t (ix2 r q) = wAt m c (rowOf t r) q.val := by
  have h := indexW t
  rw [after0_11]
  exact cast_apply _ _ _ _ _ _ _ _ _ _ (fun r n => wAt m c (rowOf t r) n)
    (fun r l => w_at m c _ _ t 0 h.1.1 r l rfl rfl) (fun r l => w_at m c _ _ t 1 h.1.2.1 r l rfl rfl) (fun r l => w_at m c _ _ t 2 h.1.2.2.1 r l rfl rfl)
    (fun r l => w_at m c _ _ t 3 h.1.2.2.2 r l rfl rfl) (fun r l => w_at m c _ _ t 4 h.2.1 r l rfl rfl) (fun r l => w_at m c _ _ t 5 h.2.2.1 r l rfl rfl)
    (fun r l => w_at m c _ _ t 6 h.2.2.2 r l rfl rfl) r q

/-- The modulation, of the arguments as launched. -/
abbrev mods : S2x6144.Idx → EReal :=
  modulation (m ((c.tc : Thread nD τ).loc main_arg0)) (m ((c.tc : Thread nD τ).loc main_arg1)) (m ((c.tc : Thread nD τ).loc main_arg2))

/-- The modulation's block at a point, in the rows of the two batches. -/
theorem mod_iblk (t : Fin cfg0.N) (b : Fin 2) (q : Fin 768) :
    (dats m 0 c).after 10 t (ix2 ⟨b.val, by omega⟩ q) = mods m c (ix2 b (colOf t q)) := by
  rw [after0_10, mod_apply, iblk2]
  refine congrArg (· + _) (Finset.sum_congr rfl fun d _ => ?_)
  rw [iblk0, iblk1]
  rfl

/-! ## The arrays -/

/-- The rounded weights: the first columns of the weights, which the points' blocks tile. -/
theorem final_cast : (dats m 0 c).arrAt 11 cfg0.N = columns (m ((c.tc : Thread nD τ).loc main_arg3)) := by
  refine (dats m 0 c).arrAt_eq_of_covers 11 _ (by decide +kernel) (fun t hf y => ?_)
  obtain ⟨r, q, rfl⟩ : ∃ r q, y = ix2 r q := ⟨y 0, y 1, by funext a; match a with | 0 => rfl | 1 => rfl⟩
  blk_simp
  refine (cast_iblk m c t r q).trans ?_
  have e : (win0_11.blk t).view.emb (ix2 r q) = ix2 (rowOf t r) q := by
    funext a
    match a with
    | 0 => exact Fin.ext (by show win0_11.index t 0 * 128 + 1 * r.val = t.val * 128 + r.val; rw [index11]; show t.val * 128 + 1 * r.val = _; omega)
    | 1 => exact Fin.ext (by show win0_11.index t 1 * 3584 + 1 * q.val = q.val; rw [index11]; show 0 * 3584 + 1 * q.val = q.val; omega)
  rw [e]
  exact dif_pos (lt_trans q.isLt (by decide))

/-- The point whose block has a column, and the column's place there. -/
def ptOf (q : Fin 6144) : Fin cfg0.N := ⟨q.val / 768, lt_of_lt_of_eq (by omega : q.val / 768 < 8) N_0.symm⟩
def inBlock (q : Fin 6144) : Fin 768 := ⟨q.val % 768, Nat.mod_lt _ (by decide)⟩

theorem colOf_ptOf (q : Fin 6144) : colOf (ptOf q) (inBlock q) = q := Fin.ext (by show q.val / 768 * 768 + q.val % 768 = q.val; omega)

/-- The modulation's array after the run: each point's block in its columns. -/
theorem tiled : (dats m 0 c).arrAt 10 cfg0.N = fun i : S8x6144.Idx => (dats m 0 c).after 10 (ptOf (i 1)) (ix2 (i 0) (inBlock (i 1))) := by
  refine (dats m 0 c).arrAt_eq_of_covers 10 _ (by decide +kernel) (fun t hf y => ?_)
  obtain ⟨b, q, rfl⟩ : ∃ b q, y = ix2 b q := ⟨y 0, y 1, by funext a; match a with | 0 => rfl | 1 => rfl⟩
  blk_simp
  have e : (win0_10.blk t).view.emb (ix2 b q) = ix2 b (colOf t q) := by
    funext a
    match a with
    | 0 => exact Fin.ext (by show win0_10.index t 0 * 8 + 1 * b.val = b.val; rw [index10]; show 0 * 8 + 1 * b.val = b.val; omega)
    | 1 => exact Fin.ext (by show win0_10.index t 1 * 768 + 1 * q.val = t.val * 768 + q.val; rw [index10]; show t.val * 768 + 1 * q.val = _; omega)
  rw [e]
  have ht : ptOf (colOf t q) = t := Fin.ext (by show (t.val * 768 + q.val) / 768 = t.val; omega)
  have hq : inBlock (colOf t q) = q := Fin.ext (by show (t.val * 768 + q.val) % 768 = q.val; omega)
  show _ = (dats m 0 c).after 10 (ptOf (colOf t q)) (ix2 b (inBlock (colOf t q)))
  rw [ht, hq]

/-- The modulation: the two batches' rows sliced off its array are the function's. -/
theorem final_mods : Pipeline.afterTail₀ cfgs (dats m) 0 (V0 m) [hostOps1] c main_v4 = mods m c := by
  unfold Pipeline.afterTail₀
  have e : StableHlo.after ([hostOps1].flatten) (Pipeline.withArrays (cfgs 0).spec c (V0 m c) fun w => (dats m 0 c).arrAt w (cfgs 0).N) (Proc.devRef .tc main_v4)
      = extractStridedSlice S2x6144 ![0, 0] ((dats m 0 c).arrAt 10 cfg0.N) slices_S8x6144_S2x6144_0_0 := by
    rw [List.flatten_singleton, StableHlo.after_cons, StableHlo.after_nil]
    after_results
    refine congrArg (fun y => extractStridedSlice S2x6144 ![0, 0] y slices_S8x6144_S2x6144_0_0)
      (Pipeline.withArrays_arr_shared spec0 c (V0 m c) _ (fun w w' hne he => ?_) 10)
    exact ((dats m 0 c).arrAt_in w (sharedIn0 w w' hne he) _).trans (A_eq m c w)
  rw [e]
  funext i
  obtain ⟨b, q, rfl⟩ : ∃ b q, i = ix2 b q := ⟨i 0, i 1, by funext a; match a with | 0 => rfl | 1 => rfl⟩
  pointwise
  rw [tiled]
  refine (mod_iblk m c (ptOf q) b (inBlock q)).trans ?_
  rw [colOf_ptOf]

end Cert.AdaIdeal.Hand

end
-- ==== Proof.CombineBody.lean ====
module

public import proofs.«01_k».proof.Proof.Gen.CombineIdeal.Frame
public import Idealize.ShloMosaic.Lib.Tactic
public import Idealize.ShloMosaic.Lib.Batch
public import Idealize.ShloMosaic.Lib.WritesUnit
public import Idealize.ShloMosaic.Lib.Pointwise

@[expose] public section

noncomputable section

namespace Cert.CombineIdeal.Hand

open Cert.CombineIdeal Cert.CombineIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

abbrev 𝒱₀ : Variants := Variants.none

/-- A row number below 8192 is a row the body may load or store. -/
theorem row_ok {v : BitVec 32} (h : v.toNat < 8192) : ∀ a, (![v.toNat, 0] : Fin 2 → Nat) a + S1x1024.size a ≤ S8192x1024.size a
  | 0 => Nat.succ_le_of_lt h
  | 1 => le_refl _

/-! ## What the loop over an expert's rows computes -/

section Rows

variable (x : Vec F S1x1x1x1024 .i32) (y : Vec F S1x1x1024x1024 .bf16)

/-- The row of the sums that the expert's row `k` is added to. -/
def rowNo (k : ℕ) : ℕ := (x (ix4 0 0 0 (Fin.ofNat 1024 k)) : BitVec 32).toNat

/-- The expert's row `k`, widened. -/
def rowVal (k : ℕ) (q : Fin 1024) : F .f32 := FloatOps.extf .f32 bitsLt_bf16_f32 (y (ix4 0 0 (Fin.ofNat 1024 k) q))

/-- The sums with the expert's first `n` rows added, one after another. -/
def addRows (g : Vec F S8192x1024 .f32) : ℕ → Vec F S8192x1024 .f32
  | 0 => g
  | n + 1 => fun p => if (p 0).val = rowNo x n then FloatOps.addf (addRows g n p) (rowVal y n (p 1)) else addRows g n p

/-- The sums `g` with rows `k`, …, `k + n - 1` of the expert stored over them, each the row of `g` plus the expert's. -/
def putRows (k : ℕ) (g : Vec F S8192x1024 .f32) : ℕ → Vec F S8192x1024 .f32
  | 0 => g
  | n + 1 => fun p => if (p 0).val = rowNo x (k + n) then FloatOps.addf (g p) (rowVal y (k + n) (p 1)) else putRows k g n p

theorem addRows_succ (g : Vec F S8192x1024 .f32) (n : ℕ) (p : S8192x1024.Idx) :
    addRows x y g (n + 1) p = if (p 0).val = rowNo x n then FloatOps.addf (addRows x y g n p) (rowVal y n (p 1)) else addRows x y g n p := rfl

theorem putRows_succ (k : ℕ) (g : Vec F S8192x1024 .f32) (n : ℕ) (p : S8192x1024.Idx) :
    putRows x y k g (n + 1) p
      = if (p 0).val = rowNo x (k + n) then FloatOps.addf (g p) (rowVal y (k + n) (p 1)) else putRows x y k g n p := rfl

/-- No two of the expert's 1024 rows are added to the same row. -/
def Distinct : Prop := ∀ j k, j < k → k < 1024 → rowNo x j ≠ rowNo x k

theorem addRows_of_ne (g : Vec F S8192x1024 .f32) (k n : ℕ) (p : S8192x1024.Idx) (h : ∀ j, j < n → (p 0).val ≠ rowNo x (k + j)) :
    addRows x y g (k + n) p = addRows x y g k p := by
  induction n with
  | zero => rfl
  | succ n ih =>
    rw [← Nat.add_assoc, addRows_succ, if_neg (h n (Nat.lt_succ_self n)), ih fun j hj => h j (Nat.lt_succ_of_lt hj)]

/-- Where the rows are distinct, storing a group of them over the sums found before the group is adding them one after another. -/
theorem putRows_eq (hd : Distinct x) (g : Vec F S8192x1024 .f32) (k n : ℕ) (hn : k + n ≤ 1024) :
    putRows x y k (addRows x y g k) n = addRows x y g (k + n) := by
  induction n with
  | zero => rfl
  | succ n ih =>
    funext p
    rw [← Nat.add_assoc, addRows_succ, putRows_succ]
    by_cases h : (p 0).val = rowNo x (k + n)
    · rw [if_pos h, if_pos h, addRows_of_ne x y g k n p fun j hj e => hd (k + j) (k + n) (by omega) (by omega) (e.symm.trans h)]
    · rw [if_neg h, if_neg h, ih (by omega)]

/-- One more row stored. -/
theorem put_cons {κ : Kind} {sp : Space} (v : View sig κ sp S8192x1024 .f32) (f : v.ty.Contents (Elt F)) (L : List (View.Piece (Elt F) S8192x1024 .f32))
    (k n : ℕ) (g : Vec F S8192x1024 .f32) (hL : v.read (Elt F) (v.writes (Elt F) f L) = putRows x y k g n)
    {off : Fin 2 → ℕ} (inb : ∀ a, off a + S1x1024.size a ≤ S8192x1024.size a) (hoff : off = ![rowNo x (k + n), 0])
    (w : S1x1024.Idx → F .f32) (hw : ∀ p : S8192x1024.Idx, (p 0).val = rowNo x (k + n) → w (ix2 0 (p 1)) = FloatOps.addf (g p) (rowVal y (k + n) (p 1))) :
    v.read (Elt F) (v.writes (Elt F) f ((⟨Rect.unit off S1x1024.size inb, w⟩ : View.Piece (Elt F) S8192x1024 .f32) :: L)) = putRows x y k g (n + 1) := by
  funext p
  show _ = if (p 0).val = rowNo x (k + n) then _ else _
  by_cases h : (p 0).val = rowNo x (k + n)
  · rw [if_pos h, ← hw p h]
    exact View.read_writes_cons_rows_of_mem v f inb w L p (ix2 0 (p 1)) hoff h rfl
  · rw [if_neg h, ← hL]
    exact View.read_writes_cons_rows_of_not_mem v f inb w L p hoff (W := 1) rfl (by omega)

end Rows

section Trip

variable (c : Dev nD) (i : grid0.Coords)
    (M2 : Memref sig .tc .smem S1x1x1x1024 .i32) (h2 : M2.IsWhole) (M3 : Memref sig .tc .vmem S1x1x1024x1024 .bf16) (h3 : M3.IsWhole)
    (M4 : Memref sig .tc .vmem S1x1024 .f32) (h4 : M4.IsWhole) (M5 : Memref sig .tc .hbm S2x8192x1024 .f32) (h5 : M5.IsWhole)
    (M6 : Memref sig .tc .hbm S2x8192x1024 .f32) (h6 : M6.IsWhole) (M7 : Memref sig .tc .vmem S8192x1024 .f32) (h7 : M7.IsWhole)
    (sems : DmaSems sig S2)

set_option maxHeartbeats 4000000 in
/-- One trip of the loop over the expert's rows, as the body runs it. -/
def tripProg (k0_t1 : Fin k0_t1_loop.trips) : Prog (TpuEff nD τ sig (Elt F) Λ₀ .tc) PUnit := do
  let c0_i32_1 : BitVec 32 := 0#32
  let c1_i32 : BitVec 32 := 1#32
  let ⟨v8, v12, v15, k0_hw1, v18, k0_hw2, v21, k0_hw3, v24, k0_hw4, v27, k0_hw5, v30, k0_hw6, c6_i32⟩ ← k0_part1 i M2 h2 M3 h3 M4 h4 M5 h5 M6 h6 M7 h7 sems c0_i32_1 c1_i32 k0_t1
  let ⟨v33, k0_hw7, v36, k0_hw8, v44, v48, v52, v56, v60, v64, v68, v72⟩ ← k0_part2 i M2 h2 M3 h3 M4 h4 M5 h5 M6 h6 M7 h7 sems k0_t1 v8 v12 v15 k0_hw1 v18 k0_hw2 v21 k0_hw3 v24 k0_hw4 v27 k0_hw5 v30 k0_hw6 c6_i32
  let ⟨v103, k0_hw9, v106, k0_hw10, c10_i32⟩ ← k0_part3 i M2 h2 M3 h3 M4 h4 M5 h5 M6 h6 M7 h7 sems k0_t1 v8 v15 k0_hw1 v18 k0_hw2 v21 k0_hw3 v24 k0_hw4 v27 k0_hw5 v30 k0_hw6 v33 k0_hw7 v36 k0_hw8 v44 v48 v52 v56 v60 v64 v68 v72
  let ⟨v109, k0_hw11, v112, k0_hw12, v115, k0_hw13, v118, k0_hw14, v121, k0_hw15, v124, k0_hw16, v128, v132, v134⟩ ← k0_part4 i M2 h2 M3 h3 M4 h4 M5 h5 M6 h6 M7 h7 sems k0_t1 v8 v12 v103 k0_hw9 v106 k0_hw10 c10_i32
  let ⟨v148, v152, v156, v178⟩ ← k0_part5 i M2 h2 M3 h3 M4 h4 M5 h5 M6 h6 M7 h7 sems v12 v103 k0_hw9 v106 k0_hw10 v109 k0_hw11 v112 k0_hw12 v115 k0_hw13 v118 k0_hw14 v121 k0_hw15 v124 k0_hw16 v128 v132 v134
  have v179 : FVec F S1x1024 .f32 := shapeCast S1x1024 v178 shapeCasts_S1x1024_S1x1024
  have v180 : FVec F S1x1024 .f32 := shapeCast S1x1024 v148 shapeCasts_S1x1024_S1x1024
  Prog.lift (.store M7 (Rect.unit (s := S8192x1024) (k0_off33 v118) S1x1024.size (k0_off33_inb v118 k0_hw14)) v180 Finset.univ (View.stores_vmem_bits_univ h_S1x1024 rfl) (.inl rfl))
  let v181 : Index := Scalar.indexCast v121
  let c0_87 : Index := 0#32
  let v182 : Vec F S1x1024 .f32 ← Prog.lift (.load M7 (Rect.unit (s := S8192x1024) (k0_off34 v121) S1x1024.size (k0_off34_inb v121 k0_hw15)).toLoadRect (View.loadsAt_vmem h_S1x1024))
  have v183 : FVec F S1x1024 .f32 := shapeCast S1x1024 v182 shapeCasts_S1x1024_S1x1024
  have v184 : FVec F S1x1024 .f32 := shapeCast S1x1024 v152 shapeCasts_S1x1024_S1x1024
  Prog.lift (.store M7 (Rect.unit (s := S8192x1024) (k0_off34 v121) S1x1024.size (k0_off34_inb v121 k0_hw15)) v184 Finset.univ (View.stores_vmem_bits_univ h_S1x1024 rfl) (.inl rfl))
  let v185 : Index := Scalar.indexCast v124
  let c0_88 : Index := 0#32
  let v186 : Vec F S1x1024 .f32 ← Prog.lift (.load M7 (Rect.unit (s := S8192x1024) (k0_off27 v124) S1x1024.size (k0_off27_inb v124 k0_hw16)).toLoadRect (View.loadsAt_vmem h_S1x1024))
  have v187 : FVec F S1x1024 .f32 := shapeCast S1x1024 v186 shapeCasts_S1x1024_S1x1024
  have v188 : FVec F S1x1024 .f32 := shapeCast S1x1024 v156 shapeCasts_S1x1024_S1x1024
  Prog.lift (.store M7 (Rect.unit (s := S8192x1024) (k0_off27 v124) S1x1024.size (k0_off27_inb v124 k0_hw16)) v188 Finset.univ (View.stores_vmem_bits_univ h_S1x1024 rfl) (.inl rfl))
  pure ⟨⟩

theorem off_words : ∀ t : Fin k0_t1_loop.trips, ∀ j : Fin 8,
    k0_off3 t (BitVec.ofNat 32 j.val) = ![0, 0, 0, 16 * t.val + j.val] ∧ k0_off19 t (BitVec.ofNat 32 (8 + j.val)) = ![0, 0, 0, 16 * t.val + (8 + j.val)] := by
  decide +kernel

theorem off_rows : ∀ t : Fin k0_t1_loop.trips, k0_off2 t = ![0, 0, 16 * t.val, 0] := by decide +kernel

theorem trips_le (t : Fin k0_t1_loop.trips) : t.val < 64 := t.isLt

/-- The word that names row `k`. -/
theorem word {κ : Kind} {sp : Space} (v : View sig κ sp S1x1x1x1024 .i32) (f : v.ty.Contents (Elt F)) {off : Fin 4 → ℕ} (k : ℕ) (hk : k < 1024)
    (inb : ∀ a, off a + S1x1x1x1.size a ≤ S1x1x1x1024.size a) (hoff : off = ![0, 0, 0, k]) (z : S1x1x1x1.Idx) :
    (View.readAt (Elt F) v (Rect.unit (s := S1x1x1x1024) off S1x1x1x1.size inb).toLoadRect f z : BitVec 32).toNat = rowNo (v.read (Elt F) f) k := by
  subst hoff
  refine congrArg (fun i => (v.read (Elt F) f i : BitVec 32).toNat) (funext fun a => ?_)
  match a with
  | 0 => exact Subsingleton.elim (α := Fin 1) _ _
  | 1 => exact Subsingleton.elim (α := Fin 1) _ _
  | 2 => exact Subsingleton.elim (α := Fin 1) _ _
  | 3 =>
    have h : (z 3).val = 0 := Nat.lt_one_iff.mp (z 3).isLt
    exact Fin.ext (by show k + 1 * (z 3).val = k % 1024; omega)

theorem cast_tile {α : Type} (u : S1x1x16x1024.Idx → α) (r : Fin 16) (q : Fin 1024) :
    shapeCast S16x1024 u shapeCasts_S1x1x16x1024_S16x1024 (ix2 r q) = u (ix4 0 0 r q) := by
  pointwise

/-- Row `j` of the sixteen rows loaded at a trip. -/
theorem row_of_tile {κ : Kind} {sp : Space} (v : View sig κ sp S1x1x1024x1024 .bf16) (f : v.ty.Contents (Elt F)) (t : Fin k0_t1_loop.trips)
    (j : ℕ) (hj : j < 16) (inb : ∀ a, k0_off2 t a + S1x1x16x1024.size a ≤ S1x1x1024x1024.size a) (hs : S16x1024.Slices ![j, 0] S1x1024) (q : Fin 1024) :
    extractStridedSlice S1x1024 ![j, 0] (extf .f32 (shapeCast S16x1024
        (View.readAt (Elt F) v (Rect.unit (s := S1x1x1024x1024) (k0_off2 t) S1x1x16x1024.size inb).toLoadRect f) shapeCasts_S1x1x16x1024_S16x1024)
        bitsLt_bf16_f32) hs (ix2 0 q)
      = rowVal (v.read (Elt F) f) (16 * t.val + j) q := by
  have ht := trips_le t
  generalize ho : k0_off2 t = off at inb
  rw [off_rows t] at ho
  subst ho
  have e : ∀ z : S16x1024.Idx, z = ix2 ⟨j, hj⟩ q → FloatOps.extf .f32 bitsLt_bf16_f32 (shapeCast S16x1024
        (View.readAt (Elt F) v (Rect.unit (s := S1x1x1024x1024) ![0, 0, 16 * t.val, 0] S1x1x16x1024.size inb).toLoadRect f) shapeCasts_S1x1x16x1024_S16x1024 z)
      = rowVal (v.read (Elt F) f) (16 * t.val + j) q := by
    rintro _ rfl
    rw [cast_tile]
    refine congrArg (fun i => FloatOps.extf .f32 bitsLt_bf16_f32 (v.read (Elt F) f i)) (funext fun a => ?_)
    match a with
    | 0 => exact Subsingleton.elim (α := Fin 1) _ _
    | 1 => exact Subsingleton.elim (α := Fin 1) _ _
    | 2 => exact Fin.ext (by show 16 * t.val + 1 * j = (16 * t.val + j) % 1024; omega)
    | 3 => exact Fin.ext (by show 0 + 1 * q.val = q.val; omega)
  refine e _ (funext fun a => ?_)
  match a with
  | 0 => exact Fin.ext (by show j + 0 = j; rfl)
  | 1 => exact Fin.ext (by show 0 + q.val = q.val; omega)

/-- A row of the sums as loaded. -/
theorem row_loaded {κ : Kind} {sp : Space} (v : View sig κ sp S8192x1024 .f32) (f : v.ty.Contents (Elt F)) (r : ℕ) {off : Fin 2 → ℕ}
    (inb : ∀ a, off a + S1x1024.size a ≤ S8192x1024.size a) (hoff : off = ![r, 0]) (p : S8192x1024.Idx) (hp : (p 0).val = r) :
    View.readAt (Elt F) v (Rect.unit (s := S8192x1024) off S1x1024.size inb).toLoadRect f (ix2 0 (p 1)) = v.read (Elt F) f p := by
  subst hoff
  refine congrArg (v.read (Elt F) f) (funext fun a => ?_)
  match a with
  | 0 => exact Fin.ext (by show r + 1 * 0 = (p 0).val; omega)
  | 1 => exact Fin.ext (by show 0 + 1 * (p 1).val = (p 1).val; omega)

/-- One of a trip's sixteen rows stored: the row of the sums found before the group, plus the expert's row. -/
theorem put_row {κ κ' : Kind} {sp sp' : Space} (v : View sig κ sp S8192x1024 .f32) (f fb : v.ty.Contents (Elt F)) (L : List (View.Piece (Elt F) S8192x1024 .f32))
    (x : Vec F S1x1x1x1024 .i32) (v3 : View sig κ' sp' S1x1x1024x1024 .bf16) (f3 : v3.ty.Contents (Elt F)) (t : Fin k0_t1_loop.trips)
    (k n j : ℕ) (hj : j < 16) (hk : k + n = 16 * t.val + j) (r : ℕ) (hr : r = rowNo x (16 * t.val + j))
    (g : Vec F S8192x1024 .f32) (hb : v.read (Elt F) fb = g) (hL : v.read (Elt F) (v.writes (Elt F) f L) = putRows x (v3.read (Elt F) f3) k g n)
    {off off' : Fin 2 → ℕ} (inb : ∀ a, off a + S1x1024.size a ≤ S8192x1024.size a) (hoff : off = ![r, 0])
    (inb' : ∀ a, off' a + S1x1024.size a ≤ S8192x1024.size a) (hoff' : off' = ![r, 0])
    (inb3 : ∀ a, k0_off2 t a + S1x1x16x1024.size a ≤ S1x1x1024x1024.size a) (hs : S16x1024.Slices ![j, 0] S1x1024) (h1 : S1x1024.ShapeCasts S1x1024) :
    v.read (Elt F) (v.writes (Elt F) f ((⟨Rect.unit off S1x1024.size inb,
        shapeCast S1x1024 (addf (View.readAt (Elt F) v (Rect.unit (s := S8192x1024) off' S1x1024.size inb').toLoadRect fb)
          (extractStridedSlice S1x1024 ![j, 0] (extf .f32 (shapeCast S16x1024
            (View.readAt (Elt F) v3 (Rect.unit (s := S1x1x1024x1024) (k0_off2 t) S1x1x16x1024.size inb3).toLoadRect f3) shapeCasts_S1x1x16x1024_S16x1024)
            bitsLt_bf16_f32) hs)) h1⟩ : View.Piece (Elt F) S8192x1024 .f32) :: L)) = putRows x (v3.read (Elt F) f3) k g (n + 1) := by
  subst hr hb
  refine put_cons x (v3.read (Elt F) f3) v f L k n _ hL inb (by rw [hoff, hk]) _ fun p hp => ?_
  refine (congrFun (shapeCast_id _ h1) _).trans ?_
  exact congrArg₂ FloatOps.addf (row_loaded v fb _ inb' hoff' p (hp.trans (by rw [hk])))
    ((row_of_tile v3 f3 t j hj inb3 hs (p 1)).trans (by rw [hk]))

set_option maxHeartbeats 4000000 in
theorem trip (t : Fin k0_t1_loop.trips)
    (f2 : Buf (Elt F) (M2.view.loc (c : Thread nD τ))) (f3 : Buf (Elt F) (M3.view.loc (c : Thread nD τ)))
    (f7 : Buf (Elt F) (M7.view.loc (c : Thread nD τ)))
    (hx : ∀ y, (M2.view.read (Elt F) f2 y : BitVec 32).toNat < 8192) (hd : Distinct (M2.view.read (Elt F) f2))
    (g : Vec F S8192x1024 .f32) (hg : M7.view.read (Elt F) f7 = addRows (M2.view.read (Elt F) f2) (M3.view.read (Elt F) f3) g (16 * t.val))
    (E : Set ℕ) (K : PUnit → sProp 𝕄) :
    iprop((M2.view.loc (c : Thread nD τ) ↦[M2.view.set]{fullShare} f2) ∗ (M3.view.loc (c : Thread nD τ) ↦[M3.view.set]{fullShare} f3)
       ∗ (M7.view.loc (c : Thread nD τ) ↦[M7.view.set]{fullShare} f7)
       ∗ (iprop((M2.view.loc (c : Thread nD τ) ↦[M2.view.set]{fullShare} f2) ∗ (M3.view.loc (c : Thread nD τ) ↦[M3.view.set]{fullShare} f3)
          ∗ ∃ f7' : Buf (Elt F) (M7.view.loc (c : Thread nD τ)),
             ⌜M7.view.read (Elt F) f7' = addRows (M2.view.read (Elt F) f2) (M3.view.read (Elt F) f3) g (16 * t.val + 16)⌝
              ∗ (M7.view.loc (c : Thread nD τ) ↦[M7.view.set]{fullShare} f7')) -∗ K ⟨⟩)) ⊢
    wp frame (wpE (defs₀ (F := F)) 𝒱₀ c none) E (tripProg i M2 h2 M3 h3 M4 h4 M5 h5 M6 h6 M7 h7 sems t) K := by
  iintro ⟨H2, H3, H7, Hk⟩
  sl_unfold [tripProg]
  sl_exec! (disch := first | exact ⟨row_ok (hx _), row_ok (hx _)⟩ | exact row_ok (hx _))
  sl_step
  iapply Hk
  isplitl [H2]; · iexact H2
  isplitl [H3]; · iexact H3
  iexists _
  isplitr; swap; · iexact H7
  ipureintro
  have ht := trips_le t
  have w : ∀ (j : Fin 8) (inb) (z), (View.readAt (Elt F) M2.view (Rect.unit (s := S1x1x1x1024) (k0_off3 t (BitVec.ofNat 32 j.val)) S1x1x1x1.size inb).toLoadRect f2 z : BitVec 32).toNat = rowNo (M2.view.read (Elt F) f2) (16 * t.val + j.val) :=
    fun j inb z => word M2.view f2 _ (by omega) _ (off_words t j).1 z
  have w' : ∀ (j : Fin 8) (inb) (z), (View.readAt (Elt F) M2.view (Rect.unit (s := S1x1x1x1024) (k0_off19 t (BitVec.ofNat 32 (8 + j.val))) S1x1x1x1.size inb).toLoadRect f2 z : BitVec 32).toNat = rowNo (M2.view.read (Elt F) f2) (16 * t.val + (8 + j.val)) :=
    fun j inb z => word M2.view f2 _ (by omega) _ (off_words t j).2 z
  have s1 : M7.view.read (Elt F) (M7.view.writes (Elt F) f7 (trip.sl.H7_1 c M2 M3 M7 t f2 f3 f7 hx)) = putRows (M2.view.read (Elt F) f2) (M3.view.read (Elt F) f3) (16 * t.val) _ 1 :=
    put_row M7.view f7 f7 [] _ M3.view f3 t (16 * t.val) 0 0 (by omega) rfl _ (w 0 _ _) _ hg hg _ rfl _ rfl _ _ _
  have s2 : M7.view.read (Elt F) (M7.view.writes (Elt F) f7 (trip.sl.H7_2 c M2 M3 M7 t f2 f3 f7 hx)) = putRows (M2.view.read (Elt F) f2) (M3.view.read (Elt F) f3) (16 * t.val) _ 2 :=
    put_row M7.view f7 f7 _ _ M3.view f3 t (16 * t.val) 1 1 (by omega) rfl _ (w 1 _ _) _ hg s1 _ rfl _ rfl _ _ _
  have s3 : M7.view.read (Elt F) (M7.view.writes (Elt F) f7 (trip.sl.H7_3 c M2 M3 M7 t f2 f3 f7 hx)) = putRows (M2.view.read (Elt F) f2) (M3.view.read (Elt F) f3) (16 * t.val) _ 3 :=
    put_row M7.view f7 f7 _ _ M3.view f3 t (16 * t.val) 2 2 (by omega) rfl _ (w 2 _ _) _ hg s2 _ rfl _ rfl _ _ _
  have s4 : M7.view.read (Elt F) (M7.view.writes (Elt F) f7 (trip.sl.H7_4 c M2 M3 M7 t f2 f3 f7 hx)) = putRows (M2.view.read (Elt F) f2) (M3.view.read (Elt F) f3) (16 * t.val) _ 4 :=
    put_row M7.view f7 f7 _ _ M3.view f3 t (16 * t.val) 3 3 (by omega) rfl _ (w 3 _ _) _ hg s3 _ rfl _ rfl _ _ _
  have s5 : M7.view.read (Elt F) (M7.view.writes (Elt F) f7 (trip.sl.H7_5 c M2 M3 M7 t f2 f3 f7 hx)) = putRows (M2.view.read (Elt F) f2) (M3.view.read (Elt F) f3) (16 * t.val) _ 5 :=
    put_row M7.view f7 f7 _ _ M3.view f3 t (16 * t.val) 4 4 (by omega) rfl _ (w 4 _ _) _ hg s4 _ rfl _ rfl _ _ _
  have s6 : M7.view.read (Elt F) (M7.view.writes (Elt F) f7 (trip.sl.H7_6 c M2 M3 M7 t f2 f3 f7 hx)) = putRows (M2.view.read (Elt F) f2) (M3.view.read (Elt F) f3) (16 * t.val) _ 6 :=
    put_row M7.view f7 f7 _ _ M3.view f3 t (16 * t.val) 5 5 (by omega) rfl _ (w 5 _ _) _ hg s5 _ rfl _ rfl _ _ _
  have s7 : M7.view.read (Elt F) (M7.view.writes (Elt F) f7 (trip.sl.H7_7 c M2 M3 M7 t f2 f3 f7 hx)) = putRows (M2.view.read (Elt F) f2) (M3.view.read (Elt F) f3) (16 * t.val) _ 7 :=
    put_row M7.view f7 f7 _ _ M3.view f3 t (16 * t.val) 6 6 (by omega) rfl _ (w 6 _ _) _ hg s6 _ rfl _ rfl _ _ _
  have s8 : M7.view.read (Elt F) (M7.view.writes (Elt F) f7 (trip.sl.H7_8 c M2 M3 M7 t f2 f3 f7 hx)) = putRows (M2.view.read (Elt F) f2) (M3.view.read (Elt F) f3) (16 * t.val) _ 8 :=
    put_row M7.view f7 f7 _ _ M3.view f3 t (16 * t.val) 7 7 (by omega) rfl _ (w 7 _ _) _ hg s7 _ rfl _ rfl _ _ _
  rw [putRows_eq _ _ hd _ _ _ (by omega)] at s8
  have s9 : M7.view.read (Elt F) (M7.view.writes (Elt F) f7 (trip.sl.H7_9 c M2 M3 M7 t f2 f3 f7 hx)) = putRows (M2.view.read (Elt F) f2) (M3.view.read (Elt F) f3) (16 * t.val + 8) _ 1 :=
    put_row M7.view f7 _ _ _ M3.view f3 t (16 * t.val + 8) 0 8 (by omega) (by omega) _ (w' 0 _ _) _ s8 s8 _ rfl _ rfl _ _ _
  have s10 : M7.view.read (Elt F) (M7.view.writes (Elt F) f7 (trip.sl.H7_10 c M2 M3 M7 t f2 f3 f7 hx)) = putRows (M2.view.read (Elt F) f2) (M3.view.read (Elt F) f3) (16 * t.val + 8) _ 2 :=
    put_row M7.view f7 _ _ _ M3.view f3 t (16 * t.val + 8) 1 9 (by omega) (by omega) _ (w' 1 _ _) _ s8 s9 _ rfl _ rfl _ _ _
  have s11 : M7.view.read (Elt F) (M7.view.writes (Elt F) f7 (trip.sl.H7_11 c M2 M3 M7 t f2 f3 f7 hx)) = putRows (M2.view.read (Elt F) f2) (M3.view.read (Elt F) f3) (16 * t.val + 8) _ 3 :=
    put_row M7.view f7 _ _ _ M3.view f3 t (16 * t.val + 8) 2 10 (by omega) (by omega) _ (w' 2 _ _) _ s8 s10 _ rfl _ rfl _ _ _
  have s12 : M7.view.read (Elt F) (M7.view.writes (Elt F) f7 (trip.sl.H7_12 c M2 M3 M7 t f2 f3 f7 hx)) = putRows (M2.view.read (Elt F) f2) (M3.view.read (Elt F) f3) (16 * t.val + 8) _ 4 :=
    put_row M7.view f7 _ _ _ M3.view f3 t (16 * t.val + 8) 3 11 (by omega) (by omega) _ (w' 3 _ _) _ s8 s11 _ rfl _ rfl _ _ _
  have s13 : M7.view.read (Elt F) (M7.view.writes (Elt F) f7 (trip.sl.H7_13 c M2 M3 M7 t f2 f3 f7 hx)) = putRows (M2.view.read (Elt F) f2) (M3.view.read (Elt F) f3) (16 * t.val + 8) _ 5 :=
    put_row M7.view f7 _ _ _ M3.view f3 t (16 * t.val + 8) 4 12 (by omega) (by omega) _ (w' 4 _ _) _ s8 s12 _ rfl _ rfl _ _ _
  have s14 : M7.view.read (Elt F) (M7.view.writes (Elt F) f7 (trip.sl.H7_14 c M2 M3 M7 t f2 f3 f7 hx)) = putRows (M2.view.read (Elt F) f2) (M3.view.read (Elt F) f3) (16 * t.val + 8) _ 6 :=
    put_row M7.view f7 _ _ _ M3.view f3 t (16 * t.val + 8) 5 13 (by omega) (by omega) _ (w' 5 _ _) _ s8 s13 _ rfl _ rfl _ _ _
  have s15 : M7.view.read (Elt F) (M7.view.writes (Elt F) f7 (trip.sl.H7_15 c M2 M3 M7 t f2 f3 f7 hx)) = putRows (M2.view.read (Elt F) f2) (M3.view.read (Elt F) f3) (16 * t.val + 8) _ 7 :=
    put_row M7.view f7 _ _ _ M3.view f3 t (16 * t.val + 8) 6 14 (by omega) (by omega) _ (w' 6 _ _) _ s8 s14 _ rfl _ rfl _ _ _
  exact (put_row M7.view f7 _ _ _ M3.view f3 t (16 * t.val + 8) 7 15 (by omega) (by omega) _ (w' 7 _ _) _ s8 s15 _ rfl _ rfl _ _ _).trans
    (putRows_eq _ _ hd _ _ _ (by omega))

end Trip

end Cert.CombineIdeal.Hand
-- ==== Proof.CombineRun.lean ====
module

public import proofs.«01_k».proof.Proof.CombineBody

@[expose] public section

noncomputable section

namespace Cert.CombineIdeal.Hand

open Cert.CombineIdeal Cert.CombineIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The memrefs the pipeline does not stage: the residual, the result, and the sums. -/
abbrev xM : Memref sig .tc .hbm S2x8192x1024 .f32 := Memref.whole main_arg2
abbrev oM : Memref sig .tc .hbm S2x8192x1024 .f32 := Memref.whole main_v2
abbrev aM : Memref sig .tc .vmem S8192x1024 .f32 := Memref.whole cc0_scratch0

/-- A matrix index, the leading unit axis put back. -/
theorem unsqueeze {a b : ℕ} (h : (⟨2, ![a, b]⟩ : Shape).numel = (⟨3, ![1, a, b]⟩ : Shape).numel) (x : Fin a) (y : Fin b) :
    Shape.reshapeEquiv h (ix2 x y) = ix3 (⟨0, Nat.one_pos⟩ : Fin 1) x y :=
  Shape.reshapeEquiv_eq_of_rowMajor h (by
    rw [Shape.rowMajor_val_three, Shape.rowMajor_val_two]
    show (0 * a + x.val) * b + y.val = x.val * b + y.val
    rw [Nat.zero_mul, Nat.zero_add])

/-- A slab of rows of one batch entry, squeezed to a matrix: where the matrix's index lies in the array. -/
theorem slab_emb {R : ℕ} (b : Fin 2) (o : ℕ) {off : Fin 3 → ℕ} (inb : ∀ a, off a + (![1, R, 1024] : Fin 3 → ℕ) a ≤ S2x8192x1024.size a)
    (hoff : off = ![b.val, o, 0]) (h : (⟨2, ![R, 1024]⟩ : Shape).numel = (⟨3, ![1, R, 1024]⟩ : Shape).numel)
    (z : (⟨2, ![R, 1024]⟩ : Shape).Idx) (ho : o + (z 0).val < 8192) :
    (Rect.unit (s := S2x8192x1024) off ![1, R, 1024] inb).emb (Shape.reshapeEquiv h z) = ix3 b ⟨o + (z 0).val, ho⟩ (z 1) := by
  subst hoff
  rw [show Shape.reshapeEquiv h z = ix3 (⟨0, Nat.one_pos⟩ : Fin 1) (z 0) (z 1) from
    (congrArg _ (funext fun a => by match a with | 0 => rfl | 1 => rfl)).trans (unsqueeze h (z 0) (z 1))]
  funext a
  match a with
  | 0 => exact Fin.ext (by show b.val + 1 * 0 = b.val; omega)
  | 1 => exact Fin.ext (by show o + 1 * (z 0).val = o + (z 0).val; omega)
  | 2 => exact Fin.ext (by show 0 + 1 * (z 1).val = (z 1).val; omega)

theorem off_copy : ∀ i : grid0.Coords, k0_off1 i = ![(i 0).val, 0, 0] := by decide +kernel

section Run

variable (c : Dev nD) (i : grid0.Coords)
    (M2 : Memref sig .tc .smem S1x1x1x1024 .i32) (h2 : M2.IsWhole) (M3 : Memref sig .tc .vmem S1x1x1024x1024 .bf16) (h3 : M3.IsWhole)
    (M4 : Memref sig .tc .vmem S1x1024 .f32) (h4 : M4.IsWhole)

/-- Between trips of the loop over an expert's rows: the sums hold the rows added so far. -/
def rowsInv (f2 : Buf (Elt F) (M2.view.loc (c : Thread nD τ))) (f3 : Buf (Elt F) (M3.view.loc (c : Thread nD τ))) (g : Vec F S8192x1024 .f32)
    (n : ℕ) (_ : PUnit) : sProp 𝕄 :=
  iprop((M2.view.loc (c : Thread nD τ) ↦[M2.view.set]{fullShare} f2) ∗ (M3.view.loc (c : Thread nD τ) ↦[M3.view.set]{fullShare} f3)
    ∗ ∃ f7 : Buf (Elt F) (aM.view.loc (c : Thread nD τ)),
        ⌜aM.view.read (Elt F) f7 = addRows (M2.view.read (Elt F) f2) (M3.view.read (Elt F) f3) g (16 * n)⌝
          ∗ (aM.view.loc (c : Thread nD τ) ↦[aM.view.set]{fullShare} f7))

theorem rows_step (f2 : Buf (Elt F) (M2.view.loc (c : Thread nD τ))) (f3 : Buf (Elt F) (M3.view.loc (c : Thread nD τ))) (g : Vec F S8192x1024 .f32)
    (hx : ∀ y, (M2.view.read (Elt F) f2 y : BitVec 32).toNat < 8192) (hd : Distinct (M2.view.read (Elt F) f2)) (t : Fin k0_t1_loop.trips) (acc : PUnit) :
    rowsInv c M2 M3 f2 f3 g t.val acc ⊢ wp frame (wpE (defs₀ (F := F)) 𝒱₀ c none) Set.univ
      (tripProg i M2 h2 M3 h3 M4 h4 xM (Memref.isWhole_whole _) oM (Memref.isWhole_whole _) aM (Memref.isWhole_whole _) cc0_scratch1 t)
      (rowsInv c M2 M3 f2 f3 g (t.val + 1)) := by
  unfold rowsInv
  iintro ⟨H2, H3, %f7, %hf7, H7⟩
  iapply (trip c i M2 h2 M3 h3 M4 h4 xM (Memref.isWhole_whole _) oM (Memref.isWhole_whole _) aM (Memref.isWhole_whole _) cc0_scratch1 t f2 f3 f7 hx hd g hf7 _ _)
  isplitl [H2]; · iexact H2
  isplitl [H3]; · iexact H3
  isplitl [H7]; · iexact H7
  iintro ⟨H2, H3, %f7', %hf7', H7⟩
  isplitl [H2]; · iexact H2
  isplitl [H3]; · iexact H3
  iexists f7'
  isplitr; swap; · iexact H7
  ipureintro
  rw [hf7', Nat.mul_succ]

theorem rows_done (f2 : Buf (Elt F) (M2.view.loc (c : Thread nD τ))) (f3 : Buf (Elt F) (M3.view.loc (c : Thread nD τ))) (g : Vec F S8192x1024 .f32)
    (acc : PUnit) : rowsInv c M2 M3 f2 f3 g (Scf.trips k0_t1_loop.lb k0_t1_loop.ub k0_t1_loop.st) acc ⊢
      iprop((M2.view.loc (c : Thread nD τ) ↦[M2.view.set]{fullShare} f2) ∗ (M3.view.loc (c : Thread nD τ) ↦[M3.view.set]{fullShare} f3)
    ∗ ∃ f7 : Buf (Elt F) (aM.view.loc (c : Thread nD τ)),
        ⌜aM.view.read (Elt F) f7 = addRows (M2.view.read (Elt F) f2) (M3.view.read (Elt F) f3) g 1024⌝
          ∗ (aM.view.loc (c : Thread nD τ) ↦[aM.view.set]{fullShare} f7)) := by
  have e : Scf.trips k0_t1_loop.lb k0_t1_loop.ub k0_t1_loop.st = 64 := by decide +kernel
  rw [e]; unfold rowsInv; exact .rfl

set_option maxHeartbeats 4000000 in
/-- The body at an expert that is neither the first nor the last: the expert's rows added to the sums. -/
theorem run_mid (hc1 : ¬k0_cond1 i = 1#1) (hc2 : ¬k0_cond2 i = 1#1) (x : Vec F S1x1x1x1024 .i32) (y : Vec F S1x1x1024x1024 .bf16)
    (hx : ∀ z, (x z : BitVec 32).toNat < 8192) (hd : Distinct x) (g : Vec F S8192x1024 .f32) (K : PUnit → sProp 𝕄) :
    iprop(owns (c : Thread nD τ) M2 fullShare x ∗ owns (c : Thread nD τ) M3 fullShare y ∗ owns (c : Thread nD τ) aM fullShare g
       ∗ (iprop(owns (c : Thread nD τ) M2 fullShare x ∗ owns (c : Thread nD τ) M3 fullShare y ∗ owns (c : Thread nD τ) aM fullShare (addRows x y g 1024)) -∗ K ⟨⟩)) ⊢
    wp frame (wpE (defs₀ (F := F)) 𝒱₀ c none) Set.univ (cc0_combine i M2 h2 M3 h3 M4 h4 xM (Memref.isWhole_whole _) oM (Memref.isWhole_whole _) aM (Memref.isWhole_whole _) cc0_scratch1) K := by
  unfold owns
  iintro ⟨⟨%f2, %hf2, H2⟩, ⟨%f3, %hf3, H3⟩, ⟨%f7, %hf7, H7⟩, Hk⟩
  obtain rfl := hf2; obtain rfl := hf3
  sl_unfold [cc0_combine]
  sl_exec
  sl_for (rowsInv c M2 M3 f2 f3 g) $$ [H2 H3 H7]
  · intro k acc; exact rows_step c i M2 h2 M3 h3 M4 h4 f2 f3 g hx hd k acc
  · unfold rowsInv
    isplitl [H2]; · iexact H2
    isplitl [H3]; · iexact H3
    iexists f7
    isplitr; swap; · iexact H7
    ipureintro; exact hf7
  iintro %acc HL
  sl_exec
  ihave HL' := (rows_done c M2 M3 f2 f3 g acc) $$ HL
  icases HL' with ⟨H2, H3, %f7', %hf7', H7⟩
  sl_step
  iapply Hk
  isplitl [H2]; · iexists f2; isplitr; · ipureintro; rfl
                  iexact H2
  isplitl [H3]; · iexists f3; isplitr; · ipureintro; rfl
                  iexact H3
  iexists f7'
  isplitr; · ipureintro; exact hf7'
  iexact H7

set_option maxHeartbeats 4000000 in
set_option pp.maxSteps 1500 in
/-- The body at the first expert: the residual's block copied into the sums, then the expert's rows added. -/
theorem run_first (hc1 : k0_cond1 i = 1#1) (hc2 : ¬k0_cond2 i = 1#1) (x : Vec F S1x1x1x1024 .i32) (y : Vec F S1x1x1024x1024 .bf16)
    (hx : ∀ z, (x z : BitVec 32).toNat < 8192) (hd : Distinct x) (r : Buf (Elt F) (xM.view.loc (c : Thread nD τ)))
    (W : Waits sig Unit) (K : PUnit → sProp 𝕄) :
    iprop(owns (c : Thread nD τ) M2 fullShare x ∗ owns (c : Thread nD τ) M3 fullShare y ∗ (∃ g, owns (c : Thread nD τ) aM fullShare g)
       ∗ (xM.view.loc (c : Thread nD τ) ↦{fullShare} r) ∗ semVal ((c : Thread nD τ), SemLoc.dma 5) 0 ∗ owes (c : Thread nD τ) 0 W
       ∗ (iprop(owns (c : Thread nD τ) M2 fullShare x ∗ owns (c : Thread nD τ) M3 fullShare y
            ∗ owns (c : Thread nD τ) aM fullShare (addRows x y (fun p => r (ix3 (i 0) (p 0) (p 1))) 1024)
            ∗ (xM.view.loc (c : Thread nD τ) ↦{fullShare} r) ∗ semVal ((c : Thread nD τ), SemLoc.dma 5) 0 ∗ (∃ W', owes (c : Thread nD τ) 0 W')) -∗ K ⟨⟩)) ⊢
    wp frame (wpE (defs₀ (F := F)) 𝒱₀ c none) Set.univ (cc0_combine i M2 h2 M3 h3 M4 h4 xM (Memref.isWhole_whole _) oM (Memref.isWhole_whole _) aM (Memref.isWhole_whole _) cc0_scratch1) K := by
  unfold owns
  iintro ⟨⟨%f2, %hf2, H2⟩, ⟨%f3, %hf3, H3⟩, ⟨%g, %f7, %hf7, H7⟩, Hx, Hs, HO, Hk⟩
  obtain rfl := hf2; obtain rfl := hf3
  sl_unfold [cc0_combine]
  sl_exec
  sl_for (rowsInv c M2 M3 f2 f3 (fun p => r (ix3 (i 0) (p 0) (p 1)))) $$ [H2 H3 H7]
  · intro k acc; exact rows_step c i M2 h2 M3 h3 M4 h4 f2 f3 _ hx hd k acc
  · unfold rowsInv
    isplitl [H2]; · iexact H2
    isplitl [H3]; · iexact H3
    iexists _
    isplitr; swap; · iexact H7
    ipureintro
    refine (funext fun p => ?_ : _ = fun p : S8192x1024.Idx => r (ix3 (i 0) (p 0) (p 1)))
    refine (View.read_writes_cons_hit_of_coords _ _ _ _ _ p p fun a => by show (p a).val = 0 + 1 * (p a).val; omega).trans ?_
    exact congrArg r ((slab_emb (R := 8192) (i 0) 0 _ (off_copy i) _ p (by have h : (p 0).val < 8192 := (p 0).isLt; omega)).trans
      (congrArg (fun q => ix3 (i 0) q (p 1)) (Fin.ext (Nat.zero_add _))))
  iintro %acc HL
  sl_exec
  ihave HL' := (rows_done c M2 M3 f2 f3 _ acc) $$ HL
  icases HL' with ⟨H2, H3, %f7', %hf7', H7⟩
  sl_step
  iapply Hk
  isplitl [H2]; · iexists f2; isplitr; · ipureintro; rfl
                  iexact H2
  isplitl [H3]; · iexists f3; isplitr; · ipureintro; rfl
                  iexact H3
  isplitl [H7]; · iexists f7'; isplitr; · ipureintro; exact hf7'
                  iexact H7
  isplitl [Hx]; · iexact Hx
  isplitl [Hs]; · iexact Hs
  iexists _; iexact HO

end Run

end Cert.CombineIdeal.Hand
-- ==== Proof.CombineNorm.lean ====
module

public import proofs.«01_k».proof.Proof.CombineRun

@[expose] public section

noncomputable section

namespace Cert.CombineIdeal.Hand

open Cert.CombineIdeal Cert.CombineIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- What the body makes of a tile of the sums: each row over the root of its mean square, times the gain. -/
def normTile (v : Vec F S512x1024 .f32) (g : Vec F S1x1024 .f32) : Vec F S512x1024 .f32 :=
  mulf (mulf v (broadcastTo S512x1024 (rsqrt (addf (divf (shapeCast S512x1
      (multiReduction .add [1] S512 (mulf v v) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- Tile `t` of the sums: rows `512 t` to `512 t + 511`. -/
def tileOf (a : Vec F S8192x1024 .f32) (t : Fin 16) : Vec F S512x1024 .f32 :=
  fun z => a (ix2 ⟨512 * t.val + (z 0).val, by have := (z 0).isLt; have := t.isLt; have h : (z 0).val < 512 := (z 0).isLt; omega⟩ (z 1))

/-- The sums with every row normalised, tile by tile. -/
def normRows (a : Vec F S8192x1024 .f32) (g : Vec F S1x1024 .f32) : Vec F S8192x1024 .f32 :=
  fun p => normTile (tileOf a ⟨(p 0).val / 512, by have h : (p 0).val < 8192 := (p 0).isLt; omega⟩) g
    (ix2 ⟨(p 0).val % 512, Nat.mod_lt _ (by norm_num)⟩ (p 1))

/-- The result once batch entry `b` has been written out. -/
def putBatch (f : Vec F S2x8192x1024 .f32) (b : Fin 2) (a : Vec F S8192x1024 .f32) : Vec F S2x8192x1024 .f32 :=
  fun p => if (p 0).val = b.val then a (ix2 (p 1) (p 2)) else f p

abbrev T2 : ℕ := k0_t2_loop.trips
theorem T2_eq : T2 = 16 := by decide +kernel

theorem off_load : ∀ t : Fin T2, k0_off35 t = ![512 * t.val, 0] := by decide +kernel
theorem off_src : ∀ t : Fin T2, k0_off37 t = ![512 * t.val, 0] := by decide +kernel
theorem off_dst : ∀ (i : grid0.Coords) (t : Fin T2), k0_off36 i t = ![(i 0).val, 512 * t.val, 0] := by decide +kernel

section Tiles

variable (c : Dev nD) (i : grid0.Coords) (hc2 : k0_cond2 i = 1#1)
    (M4 : Memref sig .tc .vmem S1x1024 .f32) (h4 : M4.IsWhole)

/-- Tile `t` of the sums and of the result, as the transfers name them. -/
def accT (t : Fin T2) : Memref sig .tc .vmem S512x1024 .f32 :=
  aM.slice (Rect.unit (s := S8192x1024) (k0_off37 t) S512x1024.size (k0_off37_inb i t hc2)) (fun _ => rfl)
def outT (t : Fin T2) : Memref sig .tc .hbm S512x1024 .f32 :=
  (oM.slice (Rect.unit (s := S2x8192x1024) (k0_off36 i t) S1x512x1024.size (k0_off36_inb i t hc2)) (fun _ => rfl)).squeeze S512x1024 squeezes_S1x512x1024_S512x1024

/-- One trip of the loop that normalises a tile and sends it to the result. -/
def normProg (k0_t2 : Fin k0_t2_loop.trips) : Prog (TpuEff nD τ sig (Elt F) Λ₀ .tc) PUnit := do
  let v12 : Vec F S512x1024 .f32 ← Prog.lift (.load aM (Rect.unit (s := S8192x1024) (k0_off35 k0_t2) S512x1024.size (k0_off35_inb i k0_t2 hc2)).toLoadRect (View.loadsAt_vmem h_S512x1024))
  let v23 : Vec F S1x1024 .f32 ← Prog.lift (.load M4 (Rect.unit (s := S1x1024) ![0, 0] S1x1024.size inb_S1x1024_S1x1024_0_0).toLoadRect (View.loadsAt_vmem h_S1x1024))
  let v28 : Vec F S512x1024 .f32 ← Prog.lift (.load aM (Rect.unit (s := S8192x1024) (k0_off35 k0_t2) S512x1024.size (k0_off35_inb i k0_t2 hc2)).toLoadRect (View.loadsAt_vmem h_S512x1024))
  have v30 : FVec F S512x1024 .f32 := shapeCast S512x1024 (normTile v12 v23) shapeCasts_S512x1024_S512x1024
  Prog.lift (.store aM (Rect.unit (s := S8192x1024) (k0_off35 k0_t2) S512x1024.size (k0_off35_inb i k0_t2 hc2)) v30 Finset.univ (View.stores_vmem_bits_univ h_S512x1024 rfl) (.inl rfl))
  let v33 : DmaSems sig S1 := cc0_scratch1.slice (Rect.unit (s := S2) ![1] S1.size inb_S2_S1_1)
  let v34 : DmaSems sig S_ := v33.squeeze S_ squeezes_S1_S_
  Prog.lift (.enqueueDma (accT i hc2 k0_t2) (.here (outT i hc2 k0_t2)) (.dma v34.sem) (View.wordExact_bits rfl) ((View.wordExact_bits rfl).reshape _ _) ⟨Or.inl rfl, trivial⟩)
  pure ⟨⟩

/-- One trip of the loop that waits for the tiles sent. -/
def waitProg (k0_t3 : Fin k0_t3_loop.trips) : Prog (TpuEff nD τ sig (Elt F) Λ₀ .tc) PUnit := do
  let v11 : DmaSems sig S1 := cc0_scratch1.slice (Rect.unit (s := S2) ![1] S1.size inb_S2_S1_1)
  let v12 : DmaSems sig S_ := v11.squeeze S_ squeezes_S1_S_
  let v13 : Memref sig .tc .hbm S1x512x1024 .f32 := oM.slice (Rect.unit (s := S2x8192x1024) (k0_off38 i k0_t3) S1x512x1024.size (k0_off38_inb i k0_t3 hc2)) (fun _ => rfl)
  let v14 : Memref sig .tc .hbm S512x1024 .f32 := v13.squeeze S512x1024 squeezes_S1x512x1024_S512x1024
  let v15 : Memref sig .tc .vmem S512x1024 .f32 := aM.slice (Rect.unit (s := S8192x1024) (k0_off39 k0_t3) S512x1024.size (k0_off39_inb i k0_t3 hc2)) (fun _ => rfl)
  Prog.lift (.waitDma2 v12.sem v15 v14 (View.wordExact_bits rfl) ((View.wordExact_bits rfl).reshape _ _))
  pure ⟨⟩

/-- The elements of tile `t`, in the sums and in the result. -/
def accS (t : Fin T2) : Finset S8192x1024.Idx := (Rect.unit (s := S8192x1024) (k0_off37 t) S512x1024.size (k0_off37_inb i t hc2)).set
def outS (t : Fin T2) : Finset S2x8192x1024.Idx := (Rect.unit (s := S2x8192x1024) (k0_off36 i t) S1x512x1024.size (k0_off36_inb i t hc2)).set

theorem set_acc (t : Fin T2) : (accT i hc2 t).view.set = accS i hc2 t := View.set_slice_whole _ _
theorem set_out (t : Fin T2) : (outT i hc2 t).view.set = outS i hc2 t := (View.set_reshape _ _).trans (View.set_slice_whole _ _)
theorem setOn_unit {off off' : Fin 2 → ℕ} (h : off = off') (inb : ∀ a, off a + S512x1024.size a ≤ S8192x1024.size a)
    (inb' : ∀ a, off' a + S512x1024.size a ≤ S8192x1024.size a) :
    aM.view.setOn (Rect.unit (s := S8192x1024) off S512x1024.size inb).set = (Rect.unit (s := S8192x1024) off' S512x1024.size inb').set := by
  subst h
  exact (View.set_slice aM.view (Rect.unit (s := S8192x1024) off S512x1024.size inb)).symm.trans (View.set_slice_whole _ _)
theorem setOn_acc (t : Fin T2) :
    aM.view.setOn (Rect.unit (s := S8192x1024) (k0_off35 t) S512x1024.size (k0_off35_inb i t hc2)).set = accS i hc2 t :=
  setOn_unit ((off_load t).trans (off_src t).symm) _ _

theorem mem_acc (t : Fin T2) (p : S8192x1024.Idx) :
    p ∈ accS i hc2 t ↔ (p 0).val / 512 = t.val := by
  unfold accS
  rw [Rect.mem_set_unit, off_src]
  have h1 : (p 1).val < 1024 := (p 1).isLt
  constructor
  · intro H; have a0 : 512 * t.val ≤ (p 0).val ∧ (p 0).val < 512 * t.val + 512 := H 0; omega
  · intro H a
    match a with
    | 0 => show 512 * t.val ≤ (p 0).val ∧ (p 0).val < 512 * t.val + 512; omega
    | 1 => show 0 ≤ (p 1).val ∧ (p 1).val < 0 + 1024; omega

theorem mem_out (t : Fin T2) (p : S2x8192x1024.Idx) :
    p ∈ outS i hc2 t ↔ (p 0).val = (i 0).val ∧ (p 1).val / 512 = t.val := by
  unfold outS
  rw [Rect.mem_set_unit, off_dst]
  have h1 : (p 2).val < 1024 := (p 2).isLt
  constructor
  · intro H
    have a0 : (i 0).val ≤ (p 0).val ∧ (p 0).val < (i 0).val + 1 := H 0
    have a1 : 512 * t.val ≤ (p 1).val ∧ (p 1).val < 512 * t.val + 512 := H 1
    omega
  · rintro ⟨H0, H⟩ a
    match a with
    | 0 => show (i 0).val ≤ (p 0).val ∧ (p 0).val < (i 0).val + 1; omega
    | 1 => show 512 * t.val ≤ (p 1).val ∧ (p 1).val < 512 * t.val + 512; omega
    | 2 => show 0 ≤ (p 2).val ∧ (p 2).val < 0 + 1024; omega

/-- The units one tile's transfer adds to its semaphore. -/
def NN : ℕ := sig.dmaCredit .tc .hbm oM.view.buf S512x1024 .f32

theorem tile_loaded {κ : Kind} {sp : Space} (v : View sig κ sp S8192x1024 .f32) (f : v.ty.Contents (Elt F)) (t : Fin 16) {off : Fin 2 → ℕ}
    (inb : ∀ a, off a + S512x1024.size a ≤ S8192x1024.size a) (hoff : off = ![512 * t.val, 0]) :
    View.readAt (Elt F) v (Rect.unit (s := S8192x1024) off S512x1024.size inb).toLoadRect f = tileOf (v.read (Elt F) f) t := by
  subst hoff
  funext z
  refine congrArg (v.read (Elt F) f) (funext fun a => ?_)
  match a with
  | 0 => exact Fin.ext (by show 512 * t.val + 1 * (z 0).val = 512 * t.val + (z 0).val; omega)
  | 1 => exact Fin.ext (by show 0 + 1 * (z 1).val = (z 1).val; omega)

theorem eq_ix3 (p : S2x8192x1024.Idx) (b : Fin 2) (r : Fin 8192) (h0 : (p 0).val = b.val) (h1 : r.val = (p 1).val) : ix3 b r (p 2) = p :=
  funext fun a => match a with
    | 0 => Fin.ext h0.symm
    | 1 => Fin.ext h1
    | 2 => rfl

theorem tile_emb {off : Fin 2 → ℕ} (inb : ∀ a, off a + S512x1024.size a ≤ S8192x1024.size a) (o : ℕ) (hoff : off = ![o, 0]) (z : S512x1024.Idx)
    (r : Fin 8192) (hr : o + (z 0).val = r.val) : (Rect.unit (s := S8192x1024) off S512x1024.size inb).emb z = ix2 r (z 1) := by
  subst hoff
  exact funext fun a => match a with
    | 0 => Fin.ext (by show o + 1 * (z 0).val = r.val; omega)
    | 1 => Fin.ext (by show 0 + 1 * (z 1).val = (z 1).val; omega)

theorem norm_tile (a : Vec F S8192x1024 .f32) (g : Vec F S1x1024 .f32) (t : Fin T2) (inb : ∀ x, k0_off35 t x + S512x1024.size x ≤ S8192x1024.size x)
    (inbg : ∀ x, (![0, 0] : Fin 2 → ℕ) x + S1x1024.size x ≤ S1x1024.size x) (f4 : M4.view.ty.Contents (Elt F)) (hg : M4.view.read (Elt F) f4 = g)
    (h1 : S512x1024.ShapeCasts S512x1024) (p : S8192x1024.Idx) (hp : p ∈ accS i hc2 t) :
    aM.view.read (Elt F) (aM.view.writes (Elt F) a [(⟨Rect.unit (s := S8192x1024) (k0_off35 t) S512x1024.size inb,
      shapeCast S512x1024 (normTile (View.readAt (Elt F) aM.view (Rect.unit (s := S8192x1024) (k0_off35 t) S512x1024.size inb).toLoadRect a)
        (View.readAt (Elt F) M4.view (Rect.unit (s := S1x1024) ![0, 0] S1x1024.size inbg).toLoadRect f4)) h1⟩ : View.Piece (Elt F) S8192x1024 .f32)]) p
      = normRows a g p := by
  have hp := (mem_acc i hc2 t p).mp hp
  refine (View.read_writes_cons_rows_of_mem aM.view a inb _ [] p (ix2 ⟨(p 0).val % 512, Nat.mod_lt _ (by norm_num)⟩ (p 1)) (off_load t)
    (by show (p 0).val = 512 * t.val + (p 0).val % 512; omega) rfl).trans ?_
  refine (congrFun (shapeCast_id _ h1) _).trans ?_
  have e1 : View.readAt (Elt F) aM.view (Rect.unit (s := S8192x1024) (k0_off35 t) S512x1024.size inb).toLoadRect a
      = tileOf a ⟨(p 0).val / 512, by have h : (p 0).val < 8192 := (p 0).isLt; omega⟩ := tile_loaded aM.view a _ _ ((off_load t).trans (congrArg (fun n => ![512 * n, 0]) hp.symm))
  have e2 : View.readAt (Elt F) M4.view (Rect.unit (s := S1x1024) ![0, 0] S1x1024.size inbg).toLoadRect f4 = g := by
    subst hg
    funext z
    refine congrArg (M4.view.read (Elt F) f4) (funext fun x => ?_)
    match x with
    | 0 => exact Fin.ext (by show 0 + 1 * (z 0).val = (z 0).val; omega)
    | 1 => exact Fin.ext (by show 0 + 1 * (z 1).val = (z 1).val; omega)
  rw [e1, e2]
  rfl

theorem out_tile (a : Vec F S8192x1024 .f32) (f : Vec F S2x8192x1024 .f32) (t : Fin T2) (p : S2x8192x1024.Idx) (hp : p ∈ outS i hc2 t) :
    (outT i hc2 t).view.write (Elt F) f ((accT i hc2 t).view.read (Elt F) a) Finset.univ p = putBatch f (i 0) a p := by
  have hp := (mem_out i hc2 t p).mp hp
  have hb : (p 1).val % 512 < 512 := Nat.mod_lt _ (by norm_num)
  have ht : t.val < 16 := by exact lt_of_lt_of_eq t.isLt T2_eq
  have hr : 512 * t.val + (p 1).val % 512 < 8192 := by omega
  have e : (outT i hc2 t).view.emb (ix2 ⟨(p 1).val % 512, hb⟩ (p 2)) = p :=
    (slab_emb (R := 512) (i 0) (512 * t.val) _ (off_dst i t) _ (ix2 ⟨(p 1).val % 512, hb⟩ (p 2)) hr).trans
      (eq_ix3 p (i 0) _ hp.1 (by show 512 * t.val + (p 1).val % 512 = (p 1).val; omega))
  have e' : (accT i hc2 t).view.emb (ix2 ⟨(p 1).val % 512, hb⟩ (p 2)) = ix2 (p 1) (p 2) :=
    tile_emb _ (512 * t.val) (off_src t) _ (p 1) (by show 512 * t.val + (p 1).val % 512 = (p 1).val; omega)
  refine (congrArg _ e.symm).trans ((View.write_emb_of_mem _ _ (Finset.mem_univ _)).trans ?_)
  refine Eq.trans ?_ (if_pos hp.1).symm
  exact congrArg a e'

/-- What the transfer of tile `t` leaves: the result's tile at the normalised rows, and the tile of the sums back. -/
def sent (a : Vec F S8192x1024 .f32) (g : Vec F S1x1024 .f32) (f : Vec F S2x8192x1024 .f32) (t : Fin T2) : sProp 𝕄 :=
  iprop((oM.view.loc (c : Thread nD τ) ↦[outS i hc2 t]{fullShare} putBatch f (i 0) (normRows a g))
    ∗ (aM.view.loc (c : Thread nD τ) ↦[accS i hc2 t]{fullShare} normRows a g))

instance (a : Vec F S8192x1024 .f32) (g : Vec F S1x1024 .f32) (f : Vec F S2x8192x1024 .f32) (t : Fin T2) :
    BI.Storable (upEmb : UEmb _ 𝕄) (sent (F := F) c i hc2 a g f t) := by unfold sent; infer_instance

/-- Between trips: the tiles before `k` are on their way, the rest are still held. -/
def sendInv (a : Vec F S8192x1024 .f32) (f4 : Buf (Elt F) (M4.view.loc (c : Thread nD τ))) (f : Vec F S2x8192x1024 .f32) (k : ℕ) (_ : PUnit) : sProp 𝕄 :=
  iprop(Transfers.Batch (countersEmb (U := Pipeline.UD sig nD τ)) (c : Thread nD τ) (SemLoc.dma 6) () NN
      (sent c i hc2 a (M4.view.read (Elt F) f4) f) k 0
    ∗ (M4.view.loc (c : Thread nD τ) ↦[M4.view.set]{fullShare} f4)
    ∗ bigSep (Ring.rangeSet T2 k T2) (fun t => aM.view.loc (c : Thread nD τ) ↦[accS i hc2 t]{fullShare} a)
    ∗ bigSep (Ring.rangeSet T2 k T2) (fun t => oM.view.loc (c : Thread nD τ) ↦[outS i hc2 t]{fullShare} f))

theorem read_sums (h : aM.view.ty.Contents (Elt F)) : aM.view.read (Elt F) h = h := rfl

theorem held_norm (a : Vec F S8192x1024 .f32) (f4 : M4.view.ty.Contents (Elt F)) (t : Fin T2)
    (inb : ∀ x, k0_off35 t x + S512x1024.size x ≤ S8192x1024.size x) (inbg : ∀ x, (![0, 0] : Fin 2 → ℕ) x + S1x1024.size x ≤ S1x1024.size x)
    (h1 : S512x1024.ShapeCasts S512x1024) :
    (aM.view.loc (c : Thread nD τ) ↦[accS i hc2 t]{fullShare} (aM.view.writes (Elt F) a [(⟨Rect.unit (s := S8192x1024) (k0_off35 t) S512x1024.size inb,
      shapeCast S512x1024 (normTile (View.readAt (Elt F) aM.view (Rect.unit (s := S8192x1024) (k0_off35 t) S512x1024.size inb).toLoadRect a)
        (View.readAt (Elt F) M4.view (Rect.unit (s := S1x1024) ![0, 0] S1x1024.size inbg).toLoadRect f4)) h1⟩ : View.Piece (Elt F) S8192x1024 .f32)]) : sProp 𝕄)
      = (aM.view.loc (c : Thread nD τ) ↦[accS i hc2 t]{fullShare} normRows a (M4.view.read (Elt F) f4)) :=
  pointsTo_congr fun p hp => (congrFun (read_sums _).symm p).trans (norm_tile i hc2 M4 a _ t inb inbg f4 rfl h1 p hp)

theorem held_out (a : Vec F S8192x1024 .f32) (f : Vec F S2x8192x1024 .f32) (t : Fin T2) :
    (oM.view.loc (c : Thread nD τ) ↦[outS i hc2 t]{fullShare} ((outT i hc2 t).view.write (Elt F) f ((accT i hc2 t).view.read (Elt F) a) Finset.univ) : sProp 𝕄)
      = (oM.view.loc (c : Thread nD τ) ↦[outS i hc2 t]{fullShare} putBatch f (i 0) a) :=
  pointsTo_congr fun p hp => out_tile i hc2 a f t p hp

/-- The transfer of a normalised tile, as one more of the batch under way. -/
theorem enqueue_tile (a : Vec F S8192x1024 .f32) (g : Vec F S1x1024 .f32) (f : Vec F S2x8192x1024 .f32) (t : Fin T2) {sem : DmaSem sig} (hs : sem = 6)
    {w1 : (accT i hc2 t).view.WordExact} {w2 : (outT i hc2 t).view.WordExact} {w3 : DmaTarget.Typed (nD := nD) (τ := τ) (p := Proc.tc) Space.vmem (.dma sem) (.here (outT i hc2 t))}
    {k : PUnit → Prog (TpuEff nD τ sig (Elt F) Λ₀ .tc) PUnit} {Q : PUnit → sProp 𝕄} :
    iprop((aM.view.loc (c : Thread nD τ) ↦[accS i hc2 t]{fullShare} normRows a g) ∗ (oM.view.loc (c : Thread nD τ) ↦[outS i hc2 t]{fullShare} f)
      ∗ Transfers.Batch (countersEmb (U := Pipeline.UD sig nD τ)) (c : Thread nD τ) (SemLoc.dma 6) () NN (sent c i hc2 a g f) t.val 0)
      ⊢ iprop((Transfers.Batch (countersEmb (U := Pipeline.UD sig nD τ)) (c : Thread nD τ) (SemLoc.dma 6) () NN (sent c i hc2 a g f) (t.val + 1) 0
          -∗ wp frame (wpE (defs₀ (F := F)) 𝒱₀ c none) Set.univ (k ⟨⟩) Q)
        -∗ wp frame (wpE (defs₀ (F := F)) 𝒱₀ c none) Set.univ (.op (.enqueueDma (accT i hc2 t) (.here (outT i hc2 t)) (.dma sem) w1 w2 w3) k) Q) := by
  subst hs
  have h := Transfers.wp_dmaBatch (defs := defs₀ (F := F)) (Q := Q) (k := k) (Lvl := ℕ) (countersEmb (U := Pipeline.UD sig nD τ)) 𝒱₀ (c : Thread nD τ) none (src := accT i hc2 t) (dst := outT i hc2 t)
    (via := .same) (sm := .dma 6) (hsrc := w1) (hdst := w2) (hsem := w3) (Sd := outS i hc2 t) (fd := f) (fs := normRows a g) (q := fullShare)
    (D := sent c i hc2 a g f) (j := t.val) (u := 0) () NN rfl (set_out i hc2 t).le t.isLt (Nat.zero_le _) (by
      rw [set_acc]
      exact Idealize.SL.BI.Laws.sep_mono (Entails.of_eq (held_out c i hc2 (normRows a g) f t)) .rfl)
  rw [set_acc] at h
  exact h

theorem send_step (a : Vec F S8192x1024 .f32) (f4 : Buf (Elt F) (M4.view.loc (c : Thread nD τ))) (f : Vec F S2x8192x1024 .f32)
    (t : Fin k0_t2_loop.trips) (acc : PUnit) :
    sendInv c i hc2 M4 a f4 f t.val acc ⊢ wp frame (wpE (defs₀ (F := F)) 𝒱₀ c none) Set.univ (normProg i hc2 M4 t) (sendInv c i hc2 M4 a f4 f (t.val + 1)) := by
  unfold sendInv
  rw [Ring.bigSep_rangeSet_head (NB := T2) (lo := t.val) t.isLt t.isLt, Ring.bigSep_rangeSet_head (NB := T2) (lo := t.val) t.isLt t.isLt]
  iintro ⟨HB, H4, ⟨Ha, Has⟩, ⟨Ho, Hos⟩⟩
  sl_unfold [normProg]
  rw [← setOn_acc]
  sl_exec
  rw [setOn_acc i hc2]
  ihave Ha' := (show (aM.view.loc (c : Thread nD τ) ↦[accS i hc2 t]{fullShare} (aM.view.writes (Elt F) a
      [(⟨Rect.unit (s := S8192x1024) (k0_off35 t) S512x1024.size (k0_off35_inb i t hc2), send_step.sl.v30 c i hc2 M4 a f4 t⟩ : View.Piece (Elt F) S8192x1024 .f32)]) : sProp 𝕄)
      ⊢ (aM.view.loc (c : Thread nD τ) ↦[accS i hc2 t]{fullShare} normRows a (M4.view.read (Elt F) f4))
    from Entails.of_eq (held_norm c i hc2 M4 a f4 t (k0_off35_inb i t hc2) inb_S1x1024_S1x1024_0_0 shapeCasts_S512x1024_S512x1024)) $$ Ha
  iapply (enqueue_tile c i hc2 a (M4.view.read (Elt F) f4) f t (by decide)) $$ [Ha' Ho HB]
  · isplitl [Ha']; · iexact Ha'
    isplitl [Ho]; · iexact Ho
    iexact HB
  iintro HB
  sl_step
  isplitl [HB]; · iexact HB
  isplitl [H4]; · iexact H4
  isplitl [Has]; · iexact Has
  iexact Hos

theorem NN_pos : 0 < NN := sig.dmaCredit_pos .tc .hbm oM.view.buf S512x1024 .f32 (by decide)

/-- Between waits: the units consumed so far or, past the last wait, every tile sent back and the semaphore at zero. -/
def waitInv (a : Vec F S8192x1024 .f32) (g : Vec F S1x1024 .f32) (f : Vec F S2x8192x1024 .f32) (k : ℕ) (_ : PUnit) : sProp 𝕄 :=
  iprop((∃ W, owes (c : Thread nD τ) 0 W)
    ∗ (if k < T2 then Transfers.Batch (countersEmb (U := Pipeline.UD sig nD τ)) (c : Thread nD τ) (SemLoc.dma 6) () NN (sent c i hc2 a g f) T2 (k * NN)
       else iprop(semVal ((c : Thread nD τ), SemLoc.dma 6) 0 ∗ bigSep Finset.univ (sent (F := F) c i hc2 a g f))))

theorem wait_step (a : Vec F S8192x1024 .f32) (g : Vec F S1x1024 .f32) (f : Vec F S2x8192x1024 .f32) (t : Fin k0_t3_loop.trips) (acc : PUnit) :
    waitInv c i hc2 a g f t.val acc ⊢ wp frame (wpE (defs₀ (F := F)) 𝒱₀ c none) Set.univ (waitProg i hc2 t) (waitInv c i hc2 a g f (t.val + 1)) := by
  have ht : t.val < T2 := t.isLt
  have hN := NN_pos
  unfold waitInv
  simp only [if_pos ht]
  have hs : ((cc0_scratch1.slice (Rect.unit (s := S2) ![1] S1.size inb_S2_S1_1)).squeeze S_ squeezes_S1_S_).sem = (6 : DmaSem sig) := by decide
  iintro ⟨⟨%W, HO⟩, HB⟩
  sl_unfold [waitProg]
  generalize ((cc0_scratch1.slice (Rect.unit (s := S2) ![1] S1.size inb_S2_S1_1)).squeeze S_ squeezes_S1_S_).sem = sem at hs
  subst hs
  rcases Nat.lt_or_ge (t.val + 1) T2 with h1 | h1
  · simp only [if_pos h1]
    iapply (Transfers.wp_waitBatch (Lvl := ℕ) (countersEmb (U := Pipeline.UD sig nD τ)) 𝒱₀ (c : Thread nD τ) none () (N := NN) rfl
      (by rw [← Nat.succ_mul, Nat.mul_comm]; exact (Nat.mul_lt_mul_left hN).mpr h1)) $$ [HB HO]
    · isplitl [HB]; · iexact HB
      iexact HO
    iintro ⟨HB, HO⟩
    dsimp only [Prog.bind]
    sl_step
    isplitl [HO]; · iexists _; iexact HO
    rw [Nat.succ_mul]; iexact HB
  · simp only [if_neg (Nat.not_lt.mpr h1)]
    iapply (Transfers.wp_waitBatchLast (Lvl := ℕ) (countersEmb (U := Pipeline.UD sig nD τ)) 𝒱₀ (c : Thread nD τ) none () (N := NN) rfl hN
      (by rw [← Nat.succ_mul, Nat.mul_comm, show t.val.succ = T2 from le_antisymm ht h1])) $$ [HB HO]
    · isplitl [HB]; · iexact HB
      iexact HO
    iintro ⟨HD, Hs, HO⟩
    dsimp only [Prog.bind]
    sl_step
    isplitl [HO]; · iexists _; iexact HO
    isplitl [Hs]; · iexact Hs
    iexact HD

theorem set_sums : aM.view.set = Finset.univ := View.set_whole _

theorem acc_disjoint : ∀ t t' : Fin T2, t ≠ t' → Disjoint (accS i hc2 t) (accS i hc2 t') := fun t t' hne => by
  rw [Finset.disjoint_left]; intro p h h'; rw [mem_acc] at h h'; exact hne (Fin.ext (h.symm.trans h'))
theorem acc_cover : Finset.univ.biUnion (accS i hc2) = Finset.univ := by
  ext p
  simp only [Finset.mem_biUnion, Finset.mem_univ, true_and, iff_true]
  exact ⟨⟨(p 0).val / 512, by have h : (p 0).val < 8192 := (p 0).isLt; rw [T2_eq]; omega⟩, (mem_acc i hc2 _ p).mpr rfl⟩
theorem out_disjoint : ∀ t t' : Fin T2, t ≠ t' → Disjoint (outS i hc2 t) (outS i hc2 t') := fun t t' hne => by
  rw [Finset.disjoint_left]; intro p h h'; rw [mem_out] at h h'; exact hne (Fin.ext (h.2.symm.trans h'.2))

/-- The result's elements the batch entry's tiles do not hold. -/
def outRest : Finset S2x8192x1024.Idx := Finset.univ \ Finset.univ.biUnion (outS i hc2)

theorem mem_rest (p : S2x8192x1024.Idx) (h : p ∈ outRest i hc2) : (p 0).val ≠ (i 0).val := by
  intro h0
  refine (Finset.mem_sdiff.mp h).2 (Finset.mem_biUnion.mpr ⟨⟨(p 1).val / 512, ?_⟩, Finset.mem_univ _, (mem_out i hc2 _ p).mpr ⟨h0, rfl⟩⟩)
  have h : (p 1).val < 8192 := (p 1).isLt
  rw [T2_eq]; omega

theorem tiles_acc (a : Vec F S8192x1024 .f32) :
    (aM.view.loc (c : Thread nD τ) ↦{fullShare} a : sProp 𝕄) = bigSep Finset.univ fun t : Fin T2 => aM.view.loc (c : Thread nD τ) ↦[accS i hc2 t]{fullShare} a :=
  Ring.pointsTo_blocks (ℓ := aM.view.loc (c : Thread nD τ)) (accS i hc2) (acc_disjoint i hc2) (acc_cover i hc2) a

theorem tiles_out (f : Vec F S2x8192x1024 .f32) :
    (oM.view.loc (c : Thread nD τ) ↦{fullShare} f : sProp 𝕄) ⊣⊢ iprop(bigSep Finset.univ (fun t : Fin T2 => oM.view.loc (c : Thread nD τ) ↦[outS i hc2 t]{fullShare} f)
      ∗ (oM.view.loc (c : Thread nD τ) ↦[outRest i hc2]{fullShare} f)) := by
  rw [← Ring.pointsTo_sub_blocks (ℓ := oM.view.loc (c : Thread nD τ)) (outS i hc2) (out_disjoint i hc2) _ rfl f]
  exact pointsTo_split_subset (Finset.subset_univ _)

theorem rest_out (a : Vec F S8192x1024 .f32) (f : Vec F S2x8192x1024 .f32) :
    (oM.view.loc (c : Thread nD τ) ↦[outRest i hc2]{fullShare} f : sProp 𝕄) = (oM.view.loc (c : Thread nD τ) ↦[outRest i hc2]{fullShare} putBatch f (i 0) a) :=
  pointsTo_congr fun p hp => (if_neg (mem_rest i hc2 p hp)).symm

end Tiles

section Last

variable (c : Dev nD) (i : grid0.Coords)
    (M2 : Memref sig .tc .smem S1x1x1x1024 .i32) (h2 : M2.IsWhole) (M3 : Memref sig .tc .vmem S1x1x1024x1024 .bf16) (h3 : M3.IsWhole)
    (M4 : Memref sig .tc .vmem S1x1024 .f32) (h4 : M4.IsWhole)

set_option maxHeartbeats 4000000 in
/-- The body at the last expert: the expert's rows added, then the sums normalised and sent to the batch entry's rows of the result. -/
theorem run_last (hc1 : ¬k0_cond1 i = 1#1) (hc2 : k0_cond2 i = 1#1) (x : Vec F S1x1x1x1024 .i32) (y : Vec F S1x1x1024x1024 .bf16) (g : Vec F S1x1024 .f32)
    (hx : ∀ z, (x z : BitVec 32).toNat < 8192) (hd : Distinct x) (a : Vec F S8192x1024 .f32) (f : Vec F S2x8192x1024 .f32)
    (W : Waits sig Unit) (K : PUnit → sProp 𝕄) :
    iprop(owns (c : Thread nD τ) M2 fullShare x ∗ owns (c : Thread nD τ) M3 fullShare y ∗ owns (c : Thread nD τ) M4 fullShare g
       ∗ owns (c : Thread nD τ) aM fullShare a
       ∗ (oM.view.loc (c : Thread nD τ) ↦{fullShare} f) ∗ semVal ((c : Thread nD τ), SemLoc.dma 6) 0 ∗ owes (c : Thread nD τ) 0 W
       ∗ (iprop(owns (c : Thread nD τ) M2 fullShare x ∗ owns (c : Thread nD τ) M3 fullShare y ∗ owns (c : Thread nD τ) M4 fullShare g
            ∗ owns (c : Thread nD τ) aM fullShare (normRows (addRows x y a 1024) g)
            ∗ (oM.view.loc (c : Thread nD τ) ↦{fullShare} putBatch f (i 0) (normRows (addRows x y a 1024) g))
            ∗ semVal ((c : Thread nD τ), SemLoc.dma 6) 0 ∗ (∃ W', owes (c : Thread nD τ) 0 W')) -∗ K ⟨⟩)) ⊢
    wp frame (wpE (defs₀ (F := F)) 𝒱₀ c none) Set.univ (cc0_combine i M2 h2 M3 h3 M4 h4 xM (Memref.isWhole_whole _) oM (Memref.isWhole_whole _) aM (Memref.isWhole_whole _) cc0_scratch1) K := by
  unfold owns
  iintro ⟨⟨%f2, %hf2, H2⟩, ⟨%f3, %hf3, H3⟩, ⟨%f4, %hf4, H4⟩, ⟨%f7, %hf7, H7⟩, Ho, Hs, HO, Hk⟩
  obtain rfl := hf2; obtain rfl := hf3; obtain rfl := hf4
  sl_unfold [cc0_combine]
  sl_exec
  sl_for (rowsInv c M2 M3 f2 f3 a) $$ [H2 H3 H7]
  · intro k acc; exact rows_step c i M2 h2 M3 h3 M4 h4 f2 f3 _ hx hd k acc
  · unfold rowsInv
    isplitl [H2]; · iexact H2
    isplitl [H3]; · iexact H3
    iexists f7
    isplitr; swap; · iexact H7
    ipureintro; exact hf7
  iintro %acc HL
  sl_exec
  ihave HL' := (rows_done c M2 M3 f2 f3 _ acc) $$ HL
  icases HL' with ⟨H2, H3, %f7', %hf7', H7⟩
  obtain rfl : f7' = addRows (M2.view.read (Elt F) f2) (M3.view.read (Elt F) f3) a 1024 := hf7'
  generalize hA : addRows (M2.view.read (Elt F) f2) (M3.view.read (Elt F) f3) a 1024 = A
  ihave Ha := (show (aM.view.loc (c : Thread nD τ) ↦[aM.view.set]{fullShare} A : sProp 𝕄)
      ⊢ bigSep (Ring.rangeSet T2 0 T2) fun t : Fin T2 => aM.view.loc (c : Thread nD τ) ↦[accS i hc2 t]{fullShare} A from by
    rw [Ring.rangeSet_univ, ← tiles_acc, set_sums]) $$ H7
  ihave Ho' := (show (oM.view.loc (c : Thread nD τ) ↦{fullShare} f : sProp 𝕄)
      ⊢ iprop(bigSep (Ring.rangeSet T2 0 T2) (fun t : Fin T2 => oM.view.loc (c : Thread nD τ) ↦[outS i hc2 t]{fullShare} f)
        ∗ (oM.view.loc (c : Thread nD τ) ↦[outRest i hc2]{fullShare} f)) from by
    rw [Ring.rangeSet_univ]; exact (tiles_out c i hc2 f).1) $$ Ho
  icases Ho' with ⟨Ho, Hr⟩
  imod (Transfers.batch_alloc' (Lvl := ℕ) (countersEmb (U := Pipeline.UD sig nD τ)) (c : Thread nD τ) () NN
    (sent c i hc2 A (M4.view.read (Elt F) f4) f) (sm := SemLoc.dma 6) (E := Set.univ)) $$ Hs with HB
  sl_for (sendInv c i hc2 M4 A f4 f) $$ [HB H4 Ha Ho]
  · intro k acc; exact send_step c i hc2 M4 A f4 f k acc
  · unfold sendInv
    isplitl [HB]; · iexact HB
    isplitl [H4]; · iexact H4
    isplitl [Ha]; · iexact Ha
    iexact Ho
  iintro %acc' HL
  have e2 : Scf.trips k0_t2_loop.lb k0_t2_loop.ub k0_t2_loop.st = T2 := rfl
  ihave HL' := (show sendInv c i hc2 M4 A f4 f (Scf.trips k0_t2_loop.lb k0_t2_loop.ub k0_t2_loop.st) acc'
      ⊢ iprop(Transfers.Batch (countersEmb (U := Pipeline.UD sig nD τ)) (c : Thread nD τ) (SemLoc.dma 6) () NN (sent c i hc2 A (M4.view.read (Elt F) f4) f) T2 0
        ∗ (M4.view.loc (c : Thread nD τ) ↦[M4.view.set]{fullShare} f4)) from by
    rw [e2]; unfold sendInv; iintro ⟨HB, H4, -, -⟩; isplitl [HB]; · iexact HB
    iexact H4) $$ HL
  icases HL' with ⟨HB, H4⟩
  sl_unfold [run_last.sl.prog.cont_2]
  sl_exec
  sl_for (waitInv c i hc2 A (M4.view.read (Elt F) f4) f) $$ [HB HO]
  · intro k acc; exact wait_step c i hc2 A _ f k acc
  · unfold waitInv
    rw [if_pos (by rw [T2_eq]; norm_num), Nat.zero_mul]
    isplitl [HO]; · iexists W; iexact HO
    iexact HB
  iintro %acc'' HL
  have e3 : Scf.trips k0_t3_loop.lb k0_t3_loop.ub k0_t3_loop.st = T2 := rfl
  ihave HL' := (show waitInv c i hc2 A (M4.view.read (Elt F) f4) f (Scf.trips k0_t3_loop.lb k0_t3_loop.ub k0_t3_loop.st) acc''
      ⊢ iprop((∃ W, owes (c : Thread nD τ) 0 W) ∗ semVal ((c : Thread nD τ), SemLoc.dma 6) 0
        ∗ bigSep Finset.univ (fun t : Fin T2 => oM.view.loc (c : Thread nD τ) ↦[outS i hc2 t]{fullShare} putBatch f (i 0) (normRows A (M4.view.read (Elt F) f4)))
        ∗ bigSep Finset.univ (fun t : Fin T2 => aM.view.loc (c : Thread nD τ) ↦[accS i hc2 t]{fullShare} normRows A (M4.view.read (Elt F) f4))) from by
    rw [e3]; unfold waitInv; rw [if_neg (lt_irrefl _)]
    exact sep_mono .rfl (sep_mono .rfl (Entails.of_eq (BI.bigSep_sep _ _ _)))) $$ HL
  icases HL' with ⟨HO, Hs, Ho, Ha⟩
  sl_unfold [run_last.sl.prog.cont_3]
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [Ha]
  · iexists (normRows A (M4.view.read (Elt F) f4))
    isplitr; · ipureintro; rfl
    rw [set_sums, tiles_acc c i hc2]; iexact Ha
  isplitl [Ho Hr]
  · iapply (tiles_out c i hc2 (putBatch f (i 0) (normRows A (M4.view.read (Elt F) f4)))).2
    isplitl [Ho]; · iexact Ho
    rw [← rest_out]; iexact Hr
  isplitl [Hs]; · iexact Hs
  iexact HO

end Last

end Cert.CombineIdeal.Hand
-- ==== Proof.CombineFrame.lean ====
/- The frame of the combining call with the value it leaves: what the sums and the result hold between the grid's
   points, the body at a point from the three runs (first, middle and last expert), and the whole run. -/
module

public import proofs.«01_k».proof.Proof.CombineNorm
public import Idealize.ShloMosaic.Lib.Pipeline.FrameValue

@[expose] public section

noncomputable section

namespace Cert.CombineIdeal.Hand

open Cert.CombineIdeal Cert.CombineIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the sums and the result hold between points -/

/-- The row numbers of the expert at point `t`. -/
def xAt (c : Dev nD) (t : Fin cfg0.N) : Vec F S1x1x1x1024 .i32 := iblk m c 0 t
/-- The rows of the expert at point `t`. -/
def yAt (c : Dev nD) (t : Fin cfg0.N) : Vec F S1x1x1024x1024 .bf16 := iblk m c 1 t
/-- The scale of the normalisation, as point `t` reads it. -/
def gAt (c : Dev nD) (t : Fin cfg0.N) : Vec F S1x1024 .f32 := iblk m c 2 t

/-- The residual's block for the batch entry of point `t`. -/
def resAt (c : Dev nD) (t : Fin cfg0.N) : Vec F S8192x1024 .f32 :=
  fun p => (V m c main_arg2 : Vec F S2x8192x1024 .f32) (ix3 (grid0.coords t 0) (p 0) (p 1))

/-- The sums after point `t`, from what they held before it. -/
def sumStep (c : Dev nD) (t : Fin cfg0.N) (a : Vec F S8192x1024 .f32) : Vec F S8192x1024 .f32 :=
  addRows (xAt m c t) (yAt m c t) (if t.val % 16 = 0 then resAt m c t else a) 1024

/-- The sums before point `n`, and what they are left as. -/
def sums (c : Dev nD) : ℕ → Vec F S8192x1024 .f32
  | 0 => fun p => (V m c main_arg2 : Vec F S2x8192x1024 .f32) (ix3 0 (p 0) (p 1))
  | n + 1 => if h : n < cfg0.N then sumStep m c ⟨n, h⟩ (sums c n) else sums c n

/-- The result before point `n`. -/
def outs (c : Dev nD) : ℕ → Vec F S2x8192x1024 .f32
  | 0 => (V m c main_v2 : Vec F S2x8192x1024 .f32)
  | n + 1 => if h : n < cfg0.N then
      if n % 16 = 15 then putBatch (outs c n) (grid0.coords ⟨n, h⟩ 0) (normRows (sums m c (n + 1)) (gAt m c ⟨n, h⟩)) else outs c n
    else outs c n

theorem sums_succ (c : Dev nD) (t : Fin cfg0.N) : sums m c (t.val + 1) = sumStep m c t (sums m c t.val) := by
  rw [sums, dif_pos t.isLt]

theorem outs_last (c : Dev nD) (t : Fin cfg0.N) (h : t.val % 16 = 15) :
    outs m c (t.val + 1) = putBatch (outs m c t.val) (grid0.coords t 0) (normRows (sums m c (t.val + 1)) (gAt m c t)) := by
  rw [outs, dif_pos t.isLt, if_pos h]

theorem outs_mid (c : Dev nD) (t : Fin cfg0.N) (h : ¬t.val % 16 = 15) : outs m c (t.val + 1) = outs m c t.val := by
  rw [outs, dif_pos t.isLt, if_neg h]

/-- Every expert's row numbers are rows of the sums, and none occurs twice. -/
def RowsOk : Prop := ∀ (c : Dev nD) (t : Fin cfg0.N), (∀ z, (xAt m c t z : BitVec 32).toNat < 8192) ∧ Distinct (xAt m c t)

/-! ## The proof data -/

/-- The result's batch entries, which the body writes itself. -/
def R0 : Finset (Ref sig .tc) := {main_v2}
/-- The residual, which the body reads itself. -/
def H0 : Finset (Ref sig .tc) := {main_arg2}
theorem H0_sub : H0 ⊆ Pipeline.restRefs sig spec0 := by decide
theorem R0_sub : R0 ⊆ Pipeline.restRefs sig spec0 \ H0 := by decide

abbrev osem0 : Fin 2 → SemLoc sig := fun j => (![SemLoc.dma 5, SemLoc.dma 6] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0) := by
  rw [Pipeline.ownSems0_eq_of_list c osem0 [0, 1] (by decide) (by decide)]; rfl

abbrev Pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem hbmPts0_eq (c : Dev nD) :
    (bigSep H0 (fun b => ((c : Thread nD τ).loc b) ↦{fullShare} V m c b) : sProp 𝕄) = Pt c xM (V m c main_arg2) := by
  rw [BI.bigSep_eq_bigSepL_of_eq [main_arg2] (by decide) (by decide)]; rfl

theorem routed0_eq (c : Dev nD) (W : (b : Ref sig .tc) → Buf (Elt F) ((c : Thread nD τ).loc b)) :
    (Pipeline.routed R0 c W : sProp 𝕄) = Pt c oM (W main_v2) := by
  unfold Pipeline.routed
  rw [BI.bigSep_eq_bigSepL_of_eq [main_v2] (by decide) (by decide)]; rfl

/-- What the buffers hold once the grid has run: the result at its last contents. -/
def G (c : Dev nD) : (b : Ref sig .tc) → Buf (Elt F) ((c : Thread nD τ).loc b) :=
  Function.update (V m c) main_v2 (outs m c 32)

theorem G_v2 (c : Dev nD) : G m c main_v2 = outs m c 32 := Function.update_self ..

/-- Before point `n`: the sums as the points so far leave them (anything between batch entries), the result, the
    residual as launched, both cells at zero. -/
def Inv (c : Dev nD) (n : ℕ) : sProp 𝕄 :=
  iprop((∃ a, ⌜n % 16 ≠ 0 → a = sums m c n⌝ ∗ owns (c : Thread nD τ) aM fullShare a)
    ∗ (∃ r, prngReg c r)
    ∗ (semVal ((c : Thread nD τ), SemLoc.dma 5) 0 ∗ semVal ((c : Thread nD τ), SemLoc.dma 6) 0)
    ∗ Pt c xM (V m c main_arg2) ∗ Pt c oM (outs m c n))

theorem inv_in (c : Dev nD) : (Pipeline.ΦDRG osem0 spec0 H0 R0 (V m) (V m) c : sProp 𝕄) ⊢ Inv m c 0 := by
  rw [Pipeline.ΦDRG_eq, scopedRest0_eq, ownSems00_eq, hbmPts0_eq, routed0_eq]
  unfold Inv
  simp only [aM, owns_whole]
  iintro ⟨⟨%f, H⟩, Hr⟩
  isplitl [H]
  · iexists f; isplitr; · ipureintro; exact fun h => absurd rfl h
    iexact H
  iexact Hr

theorem inv_out (c : Dev nD) : Inv m c 32 ⊢ (Pipeline.ΦDRG osem0 spec0 H0 R0 (V m) (G m) c : sProp 𝕄) := by
  rw [Pipeline.ΦDRG_eq, scopedRest0_eq, ownSems00_eq, hbmPts0_eq, routed0_eq, G_v2]
  unfold Inv
  simp only [aM, owns_whole]
  iintro ⟨⟨%f, -, H⟩, Hr⟩
  isplitl [H]
  · iexists f; iexact H
  iexact Hr

/-- The proof data of the pipeline on core `c`: the arrays as the region finds them, every window's block left in
    place, the invariant, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => xAt m c t
    | ⟨1, _⟩ => yAt m c t
    | ⟨2, _⟩ => gAt m c t
  Φ n := Inv m c n.val
  q _ := fullShare
  owed _ := 0

theorem A_eq (c : Dev nD) (w : Fin cfg0.W) : (dats m 0 c).A w = V m c (Pipeline.arrRef spec0 w) := rfl

theorem after_0 (c : Dev nD) (t : Fin cfg0.N) : (dats m 0 c).after 0 t = xAt m c t := by dsimp only [dats]
theorem after_1 (c : Dev nD) (t : Fin cfg0.N) : (dats m 0 c).after 1 t = yAt m c t := by dsimp only [dats]
theorem after_2 (c : Dev nD) (t : Fin cfg0.N) : (dats m 0 c).after 2 t = gAt m c t := by dsimp only [dats]
theorem before_0 (c : Dev nD) (t : Fin cfg0.N) (d) : (dats m 0 c).before 0 t d = xAt m c t :=
  ((dats m 0 c).before_in_eq_fetched 0 rfl (fun _ => rfl) (fun _ _ _ => rfl)
    (fun t => by rw [after_0]; unfold xAt Dat.blockOf iblk; rw [A_eq]; try rfl) t d).trans
    (by unfold xAt Dat.fetched Dat.blockOf iblk; rw [A_eq]; try rfl)
theorem before_1 (c : Dev nD) (t : Fin cfg0.N) (d) : (dats m 0 c).before 1 t d = yAt m c t :=
  ((dats m 0 c).before_in_eq_fetched 1 rfl (fun _ => rfl) (fun _ _ _ => rfl)
    (fun t => by rw [after_1]; unfold yAt Dat.blockOf iblk; rw [A_eq]; try rfl) t d).trans
    (by unfold yAt Dat.fetched Dat.blockOf iblk; rw [A_eq]; try rfl)
theorem before_2 (c : Dev nD) (t : Fin cfg0.N) (d) : (dats m 0 c).before 2 t d = gAt m c t :=
  ((dats m 0 c).before_in_eq_fetched 2 rfl (fun _ => rfl) (fun _ _ _ => rfl)
    (fun t => by rw [after_2]; unfold gAt Dat.blockOf iblk; rw [A_eq]; try rfl) t d).trans
    (by unfold gAt Dat.fetched Dat.blockOf iblk; rw [A_eq]; try rfl)

/-! ## The body at a point -/

theorem cond1_iff : ∀ t : Fin 32, k0_cond1 (grid0.coords t) = 1#1 ↔ t.val % 16 = 0 := by decide +kernel
theorem cond2_iff : ∀ t : Fin 32, k0_cond2 (grid0.coords t) = 1#1 ↔ t.val % 16 = 15 := by decide +kernel

/-- What the three windows hold at point `t`. -/
def Wins (c : Dev nD) (t : Fin cfg0.N) : sProp 𝕄 :=
  iprop(owns (c : Thread nD τ) (st0_0 t) fullShare (xAt m c t) ∗ owns (c : Thread nD τ) (st0_1 t) fullShare (yAt m c t)
    ∗ owns (c : Thread nD τ) (st0_2 t) fullShare (gAt m c t))

/-- The body at a point takes the invariant to the next point's. -/
theorem sound (hr : RowsOk m) (c : Dev nD) (t : Fin cfg0.N) (W : Waits sig Unit) (K : PUnit → sProp 𝕄) :
    iprop(Inv m c t.val ∗ owes (c : Thread nD τ) 0 W ∗ Wins m c t
        ∗ (iprop(Inv m c (t.val + 1) ∗ (∃ W', owes (c : Thread nD τ) 0 W') ∗ Wins m c t) -∗ K ⟨⟩))
      ⊢ wp frame (wpE (defs₀ (F := F)) 𝒱₀ c none) Set.univ (bodyAt0 t) K := by
  obtain ⟨hx, hd⟩ := hr c t
  unfold Inv Wins bodyAt0
  by_cases h0 : t.val % 16 = 0
  · have h1 : ¬t.val % 16 = 15 := by omega
    have e1 : sums m c (t.val + 1) = addRows (xAt m c t) (yAt m c t) (resAt m c t) 1024 := by
      rw [sums_succ, sumStep, if_pos h0]
    rw [outs_mid m c t h1]
    iintro ⟨⟨⟨%a, -, HA⟩, Hg, ⟨Hs5, Hs6⟩, Hx, Ho⟩, HO, ⟨H2, H3, H4⟩, HK⟩
    iapply (run_first c (grid0.coords t) (st0_0 t) _ (st0_1 t) _ (st0_2 t) _ ((cond1_iff t).mpr h0) (fun h => h1 ((cond2_iff t).mp h))
      (xAt m c t) (yAt m c t) hx hd (V m c main_arg2) W _)
    isplitl [H2]; · iexact H2
    isplitl [H3]; · iexact H3
    isplitl [HA]; · iexists a; iexact HA
    isplitl [Hx]; · iexact Hx
    isplitl [Hs5]; · iexact Hs5
    isplitl [HO]; · iexact HO
    iintro ⟨H2, H3, HA, Hx, Hs5, HO⟩
    iapply HK
    isplitl [HA Hg Hs5 Hs6 Hx Ho]
    · isplitl [HA]
      · iexists _; isplitr; · ipureintro; exact fun _ => e1.symm
        iexact HA
      isplitl [Hg]; · iexact Hg
      isplitl [Hs5 Hs6]
      · isplitl [Hs5]; · iexact Hs5
        iexact Hs6
      isplitl [Hx]; · iexact Hx
      iexact Ho
    isplitl [HO]; · iexact HO
    isplitl [H2]; · iexact H2
    isplitl [H3]; · iexact H3
    iexact H4
  · have e1 : sums m c (t.val + 1) = addRows (xAt m c t) (yAt m c t) (sums m c t.val) 1024 := by
      rw [sums_succ, sumStep, if_neg h0]
    by_cases h1 : t.val % 16 = 15
    · rw [outs_last m c t h1, e1]
      iintro ⟨⟨⟨%a, %ha, HA⟩, Hg, ⟨Hs5, Hs6⟩, Hx, Ho⟩, HO, ⟨H2, H3, H4⟩, HK⟩
      obtain rfl := ha h0
      iapply (run_last c (grid0.coords t) (st0_0 t) _ (st0_1 t) _ (st0_2 t) _ (fun h => h0 ((cond1_iff t).mp h)) ((cond2_iff t).mpr h1)
        (xAt m c t) (yAt m c t) (gAt m c t) hx hd (sums m c t.val) (outs m c t.val) W _)
      isplitl [H2]; · iexact H2
      isplitl [H3]; · iexact H3
      isplitl [H4]; · iexact H4
      isplitl [HA]; · iexact HA
      isplitl [Ho]; · iexact Ho
      isplitl [Hs6]; · iexact Hs6
      isplitl [HO]; · iexact HO
      iintro ⟨H2, H3, H4, HA, Ho, Hs6, HO⟩
      iapply HK
      isplitl [HA Hg Hs5 Hs6 Hx Ho]
      · isplitl [HA]
        · iexists _; isplitr; swap; · iexact HA
          ipureintro; exact fun h => absurd (by omega) h
        isplitl [Hg]; · iexact Hg
        isplitl [Hs5 Hs6]
        · isplitl [Hs5]; · iexact Hs5
          iexact Hs6
        isplitl [Hx]; · iexact Hx
        iexact Ho
      isplitl [HO]; · iexact HO
      isplitl [H2]; · iexact H2
      isplitl [H3]; · iexact H3
      iexact H4
    · rw [outs_mid m c t h1, e1]
      iintro ⟨⟨⟨%a, %ha, HA⟩, Hg, ⟨Hs5, Hs6⟩, Hx, Ho⟩, HO, ⟨H2, H3, H4⟩, HK⟩
      obtain rfl := ha h0
      iapply (run_mid c (grid0.coords t) (st0_0 t) _ (st0_1 t) _ (st0_2 t) _ (fun h => h0 ((cond1_iff t).mp h)) (fun h => h1 ((cond2_iff t).mp h))
        (xAt m c t) (yAt m c t) hx hd (sums m c t.val) _)
      isplitl [H2]; · iexact H2
      isplitl [H3]; · iexact H3
      isplitl [HA]; · iexact HA
      iintro ⟨H2, H3, HA⟩
      iapply HK
      isplitl [HA Hg Hs5 Hs6 Hx Ho]
      · isplitl [HA]
        · iexists _; isplitr; · ipureintro; exact fun _ => rfl
          iexact HA
        isplitl [Hg]; · iexact Hg
        isplitl [Hs5 Hs6]
        · isplitl [Hs5]; · iexact Hs5
          iexact Hs6
        isplitl [Hx]; · iexact Hx
        iexact Ho
      isplitl [HO]; · iexists W; iexact HO
      isplitl [H2]; · iexact H2
      isplitl [H3]; · iexact H3
      iexact H4

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (hr : RowsOk m) (c : Dev nD) (t : Fin cfg0.N) :
    bodyPre m c t ⊢ wp frame (wpE (defs₀ (F := F)) 𝒱₀ c none) Set.univ (bodyAt0 t) (fun _ => bodyPost m c t) := by
  unfold bodyPre bodyPost
  simp only [before_0, before_1, before_2, after_0, after_1, after_2]
  unfold Dat.owesAt Pipeline.owesWithin
  rw [show (dats m 0 c).owed t.castSucc = 0 from rfl, show (dats m 0 c).owed t.succ = 0 from rfl,
    show (dats m 0 c).Φ t.castSucc = Inv m c t.val from rfl, show (dats m 0 c).Φ t.succ = Inv m c (t.val + 1) from rfl]
  iintro ⟨HI, ⟨%W, -, HW⟩, ⟨%d0, H2⟩, ⟨%d1, H3⟩, ⟨%d2, H4⟩⟩
  iapply (sound m hr c t W _)
  isplitl [HI]; · iexact HI
  isplitl [HW]; · iexact HW
  isplitl [H2 H3 H4]
  · unfold Wins
    isplitl [H2]; · iexact H2
    isplitl [H3]; · iexact H3
    iexact H4
  unfold Wins
  iintro ⟨HI, ⟨%W', HW⟩, H2, H3, H4⟩
  isplitl [HI]; · iexact HI
  isplitl [HW]
  · iexists W'; isplitr; · ipureintro; exact fun _ _ => Or.inl trivial
    iexact HW
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (hr : RowsOk m) (c : Dev nD) : BodyObligation (dats (F := F) m 0 c) (defs₀ (F := F)) 𝒱₀ () Set.univ := fun t => by
  rw [bigSep_W0, bigSep_W0, defs₀_row]
  exact triple_restated (sound_body m hr c t) rfl .rfl fun _ => .rfl

/-! ## The run -/

theorem hmainD : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main (hr : RowsOk m) : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m hr c).loose) (hshare := fun c => (dats m 0 c).share_full fun _ => rfl)
    (howed := fun _ _ => rfl) (V := V m) (hmain := hmainD m) (hA := A_eq m) (G := G m)
    (hin := inv_in m) (hout := inv_out m)

/-- The whole run: the result ends as the points leave it, the arguments end unchanged, every counter at zero. -/
theorem run_value (hr : RowsOk m) : θ_run defs (onTc (τ := τ) (main (F := F))) ⟨m, fun _ => 0, ρ⟩ (fun r => (∀ c : Dev nD,
      r.2.mem ((c.tc : Thread nD τ).loc main_v2) = outs m c 32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1.2 c main_v2 (by decide)).trans (G_v2 m c),
      ((h.1.1 c).2 main_arg0 (Finset.mem_sdiff.mpr ⟨Pipeline.mem_restRefs_of main_arg0 (by decide) (by decide), by decide⟩)).trans (V_main_arg0 m c),
      ((h.1.1 c).1 1).trans (((dats m 0 c).arrAt_in 1 rfl _).trans (V_main_arg1 m c)),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c)⟩,
    h.2⟩) (run_main m ρ hr)

end Cert.CombineIdeal.Hand

end
-- ==== Proof.CombineSpec.lean ====
/- What the combining call computes, over the extended reals: to each row of the residual the experts' rows routed to
   it, and the root mean square normalisation of the sum, as one function of the arguments. -/
module

public import proofs.«01_k».proof.CombineIdeal
public import Idealize.ShloMosaic.Lib.Pointwise

@[expose] public section

noncomputable section

namespace Cert.Combined

open Idealize.ShloMosaic Cert.CombineIdeal

variable (idx : IVec S2x16x1024 32) (ye : S2x16x1024x1024.Idx → EReal) (x1 : S2x8192x1024.Idx → EReal) (g : S1024.Idx → EReal)

/-- What expert `e` of batch entry `b` adds to row `r`: its rows whose number is `r`. -/
def routed (b : Fin 2) (e : Fin 16) (r : Fin 8192) (q : Fin 1024) : EReal :=
  ∑ k : Fin 1024, if (idx (ix3 b e k)).toNat = r.val then ye (ix4 b e k q) else 0

/-- The residual's row with all the experts' rows added. -/
def total (b : Fin 2) (r : Fin 8192) (q : Fin 1024) : EReal := x1 (ix3 b r q) + ∑ e : Fin 16, routed idx ye b e r q

/-- The residual's row with the first `n` experts' rows added. -/
def sofar (b : Fin 2) (r : Fin 8192) (q : Fin 1024) (n : ℕ) : EReal :=
  x1 (ix3 b r q) + ∑ i ∈ Finset.range n, routed idx ye b (Fin.ofNat 16 i) r q

theorem sofar_all (b : Fin 2) (r : Fin 8192) (q : Fin 1024) : sofar idx ye x1 b r q 16 = total idx ye x1 b r q := by
  unfold sofar total
  rw [Finset.sum_range]
  refine congrArg (x1 (ix3 b r q) + ·) (Finset.sum_congr rfl fun e _ => ?_)
  rw [show Fin.ofNat 16 e.val = e from Fin.ext (Nat.mod_eq_of_lt e.isLt)]

theorem sofar_one (b : Fin 2) (r : Fin 8192) (q : Fin 1024) : sofar idx ye x1 b r q 1 = x1 (ix3 b r q) + routed idx ye b (Fin.ofNat 16 0) r q := by
  unfold sofar; rw [Finset.sum_range_one]

theorem sofar_succ (b : Fin 2) (r : Fin 8192) (q : Fin 1024) (n : ℕ) :
    sofar idx ye x1 b r q (n + 1) = sofar idx ye x1 b r q n + routed idx ye b (Fin.ofNat 16 n) r q := by
  unfold sofar; rw [Finset.sum_range_succ, add_assoc]

/-- A row divided by its root mean square (a small constant under the root), scaled column by column. -/
def norm (x : Fin 1024 → EReal) (q : Fin 1024) : EReal :=
  x q * Ideal.rsqrt (Ideal.div (∑ j : Fin 1024, x j * x j) (Ideal.ofBits .f32 0x44800000#32) + Ideal.ofBits .f32 0x358637BD#32) * g (ix1 q)

/-- The result. -/
def result : S2x8192x1024.Idx → EReal := fun p => norm g (total idx ye x1 (p 0) (p 1)) (p 2)

end Cert.Combined

end
-- ==== Proof.CombineValue.lean ====
/- The combining call's result over the extended reals: the blocks it is given, the sums they leave, the result. -/
module

public import proofs.«01_k».proof.Proof.CombineFrame
public import proofs.«01_k».proof.Proof.CombineSpec

@[expose] public section

noncomputable section

namespace Cert.CombineIdeal.Hand

open Cert.CombineIdeal Cert.CombineIdeal.Gen Cert.Combined
open Idealize.ShloMosaic Idealize.ShloMosaic.TcCoe

section Blocks

variable {F : FTy → Type} [FloatOps F] (m : (ℓ : Loc nD τ sig) → Buf (Elt F) ℓ) (c : Dev nD)

/-! ## The blocks, by the point's batch entry and expert -/

/-- The batch entry and the expert of a point. -/
def bt (t : Fin cfg0.N) : Fin 2 := ⟨t.val / 16, by have h : t.val < 32 := lt_of_lt_of_eq t.isLt N_0; omega⟩
def ex (t : Fin cfg0.N) : Fin 16 := ⟨t.val % 16, Nat.mod_lt _ (by norm_num)⟩

theorem coords_bt : ∀ t : Fin cfg0.N, (grid0.coords t 0).val = t.val / 16 :=
  (by decide +kernel : ∀ t : Fin grid0.N, (grid0.coords t 0).val = t.val / 16)
theorem index0 : ∀ t : Fin cfg0.N, win0_0.index t = ![t.val / 16, t.val % 16, 0, 0] := (by decide +kernel : ∀ t : Fin grid0.N, win0_0.index t = ![t.val / 16, t.val % 16, 0, 0])
theorem index1 : ∀ t : Fin cfg0.N, win0_1.index t = ![t.val / 16, t.val % 16, 0, 0] := (by decide +kernel : ∀ t : Fin grid0.N, win0_1.index t = ![t.val / 16, t.val % 16, 0, 0])
theorem index2 : ∀ t : Fin cfg0.N, win0_2.index t = ![0, 0] := (by decide +kernel : ∀ t : Fin grid0.N, win0_2.index t = ![0, 0])

theorem V_v0 : V m c main_v0 = broadcastInDim S2x16x1x1024 ![0, 1, 3] bcast_S2x16x1024_S2x16x1x1024_0_1_3 (m ((c : Thread nD τ).loc main_arg0)) := rfl
theorem V_v1 : V m c main_v1 = shapeCast S1x1024 (m ((c : Thread nD τ).loc main_arg3) : Vec F S1024 .f32) shapeCasts_S1024_S1x1024 := rfl

theorem xAt_apply (t : Fin cfg0.N) (k : Fin 1024) : xAt m c t (ix4 0 0 0 k) = m ((c : Thread nD τ).loc main_arg0) (ix3 (bt t) (ex t) k) := by
  unfold xAt iblk
  rw [View.read_apply]
  show V m c main_v0 _ = _
  rw [V_v0]
  refine Eq.trans (congrArg (broadcastInDim S2x16x1x1024 ![0, 1, 3] bcast_S2x16x1024_S2x16x1x1024_0_1_3 (m ((c : Thread nD τ).loc main_arg0)))
    (?_ : _ = ix4 (bt t) (ex t) 0 k)) ?_
  · refine funext fun a => Fin.ext ?_
    match a with
    | 0 => show win0_0.index t 0 * 1 + 1 * 0 = t.val / 16; rw [index0]; show t.val / 16 * 1 + 1 * 0 = t.val / 16; omega
    | 1 => show win0_0.index t 1 * 1 + 1 * 0 = t.val % 16; rw [index0]; show t.val % 16 * 1 + 1 * 0 = t.val % 16; omega
    | 2 => show win0_0.index t 2 * 1 + 1 * 0 = 0; rw [index0]; rfl
    | 3 => show win0_0.index t 3 * 1024 + 1 * k.val = k.val; rw [index0]; show 0 * 1024 + 1 * k.val = k.val; omega
  · pointwise

theorem yAt_apply (t : Fin cfg0.N) (k q : Fin 1024) : yAt m c t (ix4 0 0 k q) = m ((c : Thread nD τ).loc main_arg1) (ix4 (bt t) (ex t) k q) := by
  unfold yAt iblk
  rw [View.read_apply]
  show V m c main_arg1 _ = _
  rw [V_main_arg1]
  refine congrArg (m _) (funext fun a => Fin.ext ?_)
  match a with
  | 0 => show win0_1.index t 0 * 1 + 1 * 0 = t.val / 16; rw [index1]; show t.val / 16 * 1 + 1 * 0 = t.val / 16; omega
  | 1 => show win0_1.index t 1 * 1 + 1 * 0 = t.val % 16; rw [index1]; show t.val % 16 * 1 + 1 * 0 = t.val % 16; omega
  | 2 => show win0_1.index t 2 * 1024 + 1 * k.val = k.val; rw [index1]; show 0 * 1024 + 1 * k.val = k.val; omega
  | 3 => show win0_1.index t 3 * 1024 + 1 * q.val = q.val; rw [index1]; show 0 * 1024 + 1 * q.val = q.val; omega

theorem gAt_apply (t : Fin cfg0.N) (q : Fin 1024) : gAt m c t (ix2 0 q) = m ((c : Thread nD τ).loc main_arg3) (ix1 q) := by
  unfold gAt iblk
  rw [View.read_apply]
  show V m c main_v1 _ = _
  rw [V_v1]
  refine Eq.trans (congrArg (shapeCast S1x1024 (m ((c : Thread nD τ).loc main_arg3) : Vec F S1024 .f32) shapeCasts_S1024_S1x1024)
    (?_ : _ = ix2 0 q)) ?_
  · refine funext fun a => Fin.ext ?_
    match a with
    | 0 => show win0_2.index t 0 * 1 + 1 * 0 = 0; rw [index2]; rfl
    | 1 => show win0_2.index t 1 * 1024 + 1 * q.val = q.val; rw [index2]; show 0 * 1024 + 1 * q.val = q.val; omega
  · pointwise

theorem rowNo_xAt (t : Fin cfg0.N) (k : ℕ) : rowNo (xAt m c t) k = (m ((c : Thread nD τ).loc main_arg0) (ix3 (bt t) (ex t) (Fin.ofNat 1024 k)) : BitVec 32).toNat :=
  congrArg BitVec.toNat (xAt_apply m c t (Fin.ofNat 1024 k))

/-- Each expert's row numbers are rows of the result and no two of them the same: what the body needs. -/
theorem rowsOk_of (h : ∀ (c : Dev nD) (b : Fin 2) (e : Fin 16) (k : Fin 1024), (m ((c : Thread nD τ).loc main_arg0) (ix3 b e k) : BitVec 32).toNat < 8192)
    (hd : ∀ (c : Dev nD) (b : Fin 2) (e : Fin 16) (j k : Fin 1024), j ≠ k →
      m ((c : Thread nD τ).loc main_arg0) (ix3 b e j) ≠ m ((c : Thread nD τ).loc main_arg0) (ix3 b e k)) : RowsOk m := by
  intro c t
  constructor
  · intro z
    have hz : z = ix4 0 0 0 (z 3) := by
      funext a
      match a with
      | 0 => exact Subsingleton.elim (α := Fin 1) _ _
      | 1 => exact Subsingleton.elim (α := Fin 1) _ _
      | 2 => exact Subsingleton.elim (α := Fin 1) _ _
      | 3 => rfl
    rw [hz]
    exact lt_of_eq_of_lt (congrArg BitVec.toNat (xAt_apply m c t (z 3))) (h c _ _ _)
  · intro j k hjk hk
    rw [rowNo_xAt, rowNo_xAt]
    intro he
    refine hd c (bt t) (ex t) (Fin.ofNat 1024 j) (Fin.ofNat 1024 k) (fun h' => ?_) (BitVec.eq_of_toNat_eq he)
    have := congrArg Fin.val h'
    simp only [Fin.val_ofNat] at this
    omega

end Blocks

/-! ## The sums, over the extended reals -/

variable (m : (ℓ : Loc nD τ sig) → Buf (Elt Ideal) ℓ) (c : Dev nD)

theorem addRows_apply (x : Vec Ideal S1x1x1x1024 .i32) (y : Vec Ideal S1x1x1024x1024 .bf16) (g : Vec Ideal S8192x1024 .f32) (n : ℕ) (p : S8192x1024.Idx) :
    addRows x y g n p = (g p + ∑ k ∈ Finset.range n, if rowNo x k = (p 0).val then y (ix4 0 0 (Fin.ofNat 1024 k) (p 1)) else (0 : EReal) : EReal) := by
  induction n with
  | zero => show g p = _; rw [Finset.sum_range_zero]; exact (add_zero (M := EReal) _).symm
  | succ n ih =>
    rw [addRows_succ, Finset.sum_range_succ, ih]
    by_cases h : (p 0).val = rowNo x n
    · rw [if_pos h, if_pos h.symm]; exact add_assoc (G := EReal) _ _ _
    · rw [if_neg h, if_neg (Ne.symm h), add_zero]

/-- An expert's rows, added to the sums. -/
theorem sumStep_apply (t : Fin cfg0.N) (a : Vec Ideal S8192x1024 .f32) (r : Fin 8192) (q : Fin 1024) :
    addRows (xAt m c t) (yAt m c t) a 1024 (ix2 r q)
      = (a (ix2 r q) + routed (m ((c : Thread nD τ).loc main_arg0)) (m ((c : Thread nD τ).loc main_arg1)) (bt t) (ex t) r q : EReal) := by
  rw [addRows_apply, Finset.sum_range]
  unfold routed
  refine congrArg (a (ix2 r q) + · : EReal → EReal) (Finset.sum_congr rfl fun k _ => ?_)
  have hk : Fin.ofNat 1024 k.val = k := Fin.ext (Nat.mod_eq_of_lt k.isLt)
  rw [rowNo_xAt, hk]
  show (if _ = r.val then yAt m c t (ix4 0 0 k q) else (0 : EReal)) = _
  rw [yAt_apply]

/-- The sums after expert `e` of batch entry `b`: the residual and the experts so far. -/
theorem sums_apply (b : Fin 2) (r : Fin 8192) (q : Fin 1024) (e : ℕ) (he : e < 16) :
    sums m c (16 * b.val + e + 1) (ix2 r q)
      = sofar (m ((c : Thread nD τ).loc main_arg0)) (m ((c : Thread nD τ).loc main_arg1)) (m ((c : Thread nD τ).loc main_arg2)) b r q (e + 1) := by
  have hb := b.isLt
  have hN : ∀ e, e < 16 → 16 * b.val + e < cfg0.N := fun e he => by rw [show cfg0.N = 32 from N_0]; omega
  have hbt : ∀ e (he : e < 16), bt ⟨16 * b.val + e, hN e he⟩ = b := fun e he => Fin.ext (by show (16 * b.val + e) / 16 = b.val; omega)
  have hex : ∀ e (he : e < 16), ex ⟨16 * b.val + e, hN e he⟩ = Fin.ofNat 16 e := fun e he => Fin.ext (by show (16 * b.val + e) % 16 = e % 16; omega)
  induction e with
  | zero =>
    refine (congrFun (sums_succ m c ⟨16 * b.val + 0, hN 0 he⟩) (ix2 r q)).trans ?_
    unfold sumStep
    rw [if_pos (by show (16 * b.val + 0) % 16 = 0; omega), sumStep_apply, hbt _ he, hex _ he, Nat.zero_add, sofar_one]
    refine congrArg (· + _ : EReal → EReal) ?_
    unfold resAt
    rw [V_main_arg2]
    refine congrArg (m _) (congrArg (ix3 · r q) (Fin.ext ?_))
    rw [coords_bt]; show (16 * b.val + 0) / 16 = b.val; omega
  | succ e ih =>
    refine (congrFun (sums_succ m c ⟨16 * b.val + (e + 1), hN (e + 1) he⟩) (ix2 r q)).trans ?_
    unfold sumStep
    rw [if_neg (by show (16 * b.val + (e + 1)) % 16 ≠ 0; omega), sumStep_apply, hbt _ he, hex _ he, sofar_succ _ _ _ _ _ _ (e + 1)]
    exact congrArg (· + _ : EReal → EReal) (ih (by omega))

/-! ## The result -/

/-- The normalised tile at an element. -/
theorem normTile_apply (v : Vec Ideal S512x1024 .f32) (g : Vec Ideal S1x1024 .f32) (z : Fin 512) (q : Fin 1024) :
    normTile v g (ix2 z q) = norm (fun i => g (ix2 0 (i 0))) (fun j => v (ix2 z j)) q := by
  unfold normTile
  pointwise
  rfl

theorem normRows_apply (a : Vec Ideal S8192x1024 .f32) (g : Vec Ideal S1x1024 .f32) (r : Fin 8192) (q : Fin 1024) :
    normRows a g (ix2 r q) = norm (fun i => g (ix2 0 (i 0))) (fun j => a (ix2 r j)) q := by
  unfold normRows
  refine (normTile_apply _ g _ q).trans ?_
  unfold tileOf
  refine congrArg (norm _ · q) (funext fun j => congrArg (fun r => a (ix2 r j)) (Fin.ext ?_))
  show 512 * (r.val / 512) + r.val % 512 = r.val
  omega

/-- What the run leaves as the result is the function. -/
theorem outs_eq : outs m c 32 = result (m ((c : Thread nD τ).loc main_arg0)) (m ((c : Thread nD τ).loc main_arg1))
    (m ((c : Thread nD τ).loc main_arg2)) (m ((c : Thread nD τ).loc main_arg3)) := by
  have hN : cfg0.N = 32 := N_0
  -- an entry's block is written after its last expert
  have hlast : ∀ (b : Fin 2) (p : S2x8192x1024.Idx), outs m c (16 * b.val + 15 + 1) p
      = if (p 0).val = b.val then result (m ((c : Thread nD τ).loc main_arg0)) (m ((c : Thread nD τ).loc main_arg1))
          (m ((c : Thread nD τ).loc main_arg2)) (m ((c : Thread nD τ).loc main_arg3)) p else outs m c (16 * b.val + 15) p := by
    intro b p
    have hb := b.isLt
    have ht : 16 * b.val + 15 < cfg0.N := by omega
    have hc : (grid0.coords ⟨16 * b.val + 15, ht⟩ 0).val = b.val := by rw [coords_bt]; show (16 * b.val + 15) / 16 = b.val; omega
    refine (congrFun (outs_last m c ⟨16 * b.val + 15, ht⟩ (by show (16 * b.val + 15) % 16 = 15; omega)) p).trans ?_
    unfold putBatch
    rw [hc]
    by_cases h : (p 0).val = b.val
    · rw [if_pos h, if_pos h]
      refine (normRows_apply _ _ _ _).trans ?_
      have hp : p 0 = b := Fin.ext h
      have hg : (fun i : S1024.Idx => gAt m c ⟨16 * b.val + 15, ht⟩ (ix2 0 (i 0))) = m ((c : Thread nD τ).loc main_arg3) :=
        funext fun i => (gAt_apply m c _ (i 0)).trans (congrArg (m _) (funext fun a => by match a with | 0 => rfl))
      have hs : (fun j : Fin 1024 => sums m c (16 * b.val + 15 + 1) (ix2 (p 1) j)) = total (m ((c : Thread nD τ).loc main_arg0)) (m ((c : Thread nD τ).loc main_arg1))
          (m ((c : Thread nD τ).loc main_arg2)) (p 0) (p 1) := by
        funext j
        rw [hp]
        exact (sums_apply m c b (p 1) j 15 (by norm_num)).trans (sofar_all _ _ _ _ _ _)
      exact congrArg₂ (fun g x => Combined.norm g x (p 2)) hg hs
    · rw [if_neg h, if_neg h]
  -- and is kept from then on
  have hmid : ∀ n, n ≤ 15 → outs m c (16 + n) = outs m c 16 := by
    intro n hn
    induction n with
    | zero => rfl
    | succ n ih => exact (outs_mid m c ⟨16 + n, by omega⟩ (by show (16 + n) % 16 ≠ 15; omega)).trans (ih (by omega))
  funext p
  have hp : (p 0).val < 2 := (p 0).isLt
  refine (hlast 1 p).trans ?_
  by_cases h : (p 0).val = 1
  · exact if_pos h
  · refine (if_neg h).trans ?_
    refine (congrFun (hmid 15 le_rfl) p).trans ((hlast 0 p).trans (if_pos ?_))
    show (p 0).val = 0; omega

end Cert.CombineIdeal.Hand

end
-- ==== Proof.CombinePre.lean ====
/- What the combining call's precondition says of the row numbers. -/
module

public import proofs.«01_k».proof.Proof.Gen.Pre_rows_distinct
public import Idealize.ShloMosaic.Lib.Pointwise

@[expose] public section

noncomputable section

namespace Cert.Combined

open Idealize.ShloMosaic Cert.Pre_rows_distinct

attribute [local instance] Cert.Pre_rows_distinct.Gen.facts

variable {F : FTy → Type} [FloatOps F] (idx : IVec S2x16x1024 32) (ye : FVec F S2x16x1024x1024 .bf16) (x1 : FVec F S2x8192x1024 .f32) (g : FVec F S1024 .f32)

/-- Every row number is a row of the result, and an expert's row numbers differ. -/
theorem rows_of_pre (h : fn idx ye x1 g = fun _ => 1#1) :
    (∀ (b : Fin 2) (e : Fin 16) (k : Fin 1024), (idx (ix3 b e k)).toNat < 8192)
      ∧ ∀ (b : Fin 2) (e : Fin 16) (j k : Fin 1024), j ≠ k → idx (ix3 b e j) ≠ idx (ix3 b e k) := by
  have h' : ∀ (b : Fin 2) (e : Fin 16) (j k : Fin 1024),
      (0#32).toInt ≤ (idx (ix3 b e j)).toInt ∧ (idx (ix3 b e j)).toInt < (8192#32).toInt
        ∧ (idx (ix3 b e j) ≠ idx (ix3 b e k) ∨ BitVec.ofNat 32 j.val = BitVec.ofNat 32 k.val) := by
    intro b e j k
    have hx := congrFun h (ix4 b e j k)
    unfold fn at hx
    pointwise at hx
    rw [IntOp.andi_eq_one, IntOp.andi_eq_one, IntOp.ori_eq_one] at hx
    obtain ⟨⟨h0, h1⟩, h2⟩ := hx
    have hB : ∀ p : Bool, BitVec.ofBool p = 1#1 → p = true := by decide
    refine ⟨of_decide_eq_true (hB _ h0), of_decide_eq_true (hB _ h1), h2.imp (fun h => ?_) (fun h => ?_)⟩
    · exact bne_iff_ne.mp (hB _ h)
    · exact beq_iff_eq.mp (hB _ h)
  constructor
  · intro b e k
    obtain ⟨h0, h1, -⟩ := h' b e k k
    have h0 : 0 ≤ (idx (ix3 b e k)).toInt := h0
    have h1 : (idx (ix3 b e k)).toInt < 8192 := h1
    rw [BitVec.toInt_eq_toNat_cond] at h0 h1
    have := (idx (ix3 b e k)).isLt
    split_ifs at h0 h1 <;> omega
  · intro b e j k hjk
    rcases (h' b e j k).2.2 with h | h
    · exact h
    · refine absurd (Fin.ext ?_) hjk
      have := congrArg BitVec.toNat h
      simp only [BitVec.toNat_ofNat] at this
      omega

end Cert.Combined

end
-- ==== Proof.CombineRef.lean ====
/- The combining call's reference, read at an index over the extended reals. -/
module

public import proofs.«01_k».proof.Proof.Gen.CombineReferenceIdeal.Run
public import proofs.«01_k».proof.Proof.CombineSpec
public import Idealize.ShloMosaic.Lib.Pointwise

@[expose] public section

noncomputable section

namespace Cert.CombineReferenceIdeal.Hand

open Cert.CombineReferenceIdeal Cert.CombineReferenceIdeal.Gen Cert.CombineReferenceIdeal.Value Cert.Combined
open Idealize.ShloMosaic Idealize.ShloMosaic.TcCoe

/-! ## Rows added where their numbers say -/

/-- How the reference scatters: whole rows, each to the row its number names. -/
abbrev dims := scatter_S8192x1024_S16384x1_S16384x1024_1_0_0_1

theorem start_row (j : S16384x1024.Idx) (idx : IVec S16384x1 32) : ScatterDims.start dims j idx 0 = (idx (ix2 (j 0) 0)).toInt := by
  unfold ScatterDims.start
  rw [dif_pos (by decide)]
  refine congrArg (fun i => (idx i).toInt) (funext fun a => ?_)
  match a with
  | 0 => rfl
  | 1 => exact Subsingleton.elim (α := Fin 1) _ _

theorem start_col (j : S16384x1024.Idx) (idx : IVec S16384x1 32) : ScatterDims.start dims j idx 1 = 0 := by
  unfold ScatterDims.start
  rw [dif_neg (by decide)]

theorem window_row (j : S16384x1024.Idx) : ScatterDims.window dims j 0 = 0 := by
  unfold ScatterDims.window
  rw [dif_neg (by decide)]

theorem window_col (j : S16384x1024.Idx) : ScatterDims.window dims j 1 = (j 1).val := by
  unfold ScatterDims.window
  rw [dif_pos (by decide)]
  rfl

/-- Where an update lands: on the row its number names, in its own column. -/
theorem lands_iff (j : S16384x1024.Idx) (idx : IVec S16384x1 32) (r : Fin 8192) (q : Fin 1024) :
    ScatterDims.resultIdx? dims j idx = some (ix2 r q) ↔ (idx (ix2 (j 0) 0)).toInt = r.val ∧ (j 1 : Fin 1024) = q := by
  have hj : (j 1).val < 1024 := (j 1).isLt
  have e0 := start_row j idx; have e1 := start_col j idx; have w0 := window_row j; have w1 := window_col j
  unfold ScatterDims.resultIdx?
  constructor
  · intro h
    split_ifs at h with hin
    have h := Option.some.inj h
    have a0 : ((ScatterDims.start dims j idx 0 + (ScatterDims.window dims j 0 : ℕ)).toNat : ℕ) = r.val := congrArg (fun i : S8192x1024.Idx => (i 0).val) h
    have a1 : ((ScatterDims.start dims j idx 1 + (ScatterDims.window dims j 1 : ℕ)).toNat : ℕ) = q.val := congrArg (fun i : S8192x1024.Idx => (i 1).val) h
    have h0 := (hin 0).1
    rw [e0, w0] at a0 h0; rw [e1, w1] at a1
    exact ⟨by omega, Fin.ext (by omega)⟩
  · rintro ⟨hr, rfl⟩
    rw [dif_pos]
    · refine congrArg some (funext fun a => Fin.ext ?_)
      match a with
      | 0 => show ((ScatterDims.start dims j idx 0 + (ScatterDims.window dims j 0 : ℕ)).toNat : ℕ) = r.val; rw [e0, w0]; omega
      | 1 => show ((ScatterDims.start dims j idx 1 + (ScatterDims.window dims j 1 : ℕ)).toNat : ℕ) = (j 1).val; rw [e1, w1]; omega
    · intro a
      match a with
      | 0 => show 0 ≤ ScatterDims.start dims j idx 0 + (ScatterDims.window dims j 0 : ℕ) ∧ ScatterDims.start dims j idx 0 + (ScatterDims.window dims j 0 : ℕ) < (8192 : ℕ)
             rw [e0, w0]; have := r.isLt; omega
      | 1 => show 0 ≤ ScatterDims.start dims j idx 1 + (ScatterDims.window dims j 1 : ℕ) ∧ ScatterDims.start dims j idx 1 + (ScatterDims.window dims j 1 : ℕ) < (1024 : ℕ)
             rw [e1, w1]; omega

/-- The scattered sum at an element: the updates whose number names its row. -/
theorem scatter_apply (x : S8192x1024.Idx → EReal) (idx : IVec S16384x1 32) (upd : S16384x1024.Idx → EReal) (r : Fin 8192) (q : Fin 1024) :
    Host.scatterAdd (F := Ideal) (φ := .f32) dims x idx upd (ix2 r q)
      = x (ix2 r q) + ∑ n : Fin 16384, if (idx (ix2 n 0)).toInt = r.val then upd (ix2 n q) else 0 := by
  show Ideal.hostScatterAdd dims x idx upd (ix2 r q) = _
  unfold Ideal.hostScatterAdd
  refine congrArg (x (ix2 r q) + ·) ?_
  rw [← Finset.sum_filter]
  refine (Finset.sum_bij (fun n _ => (ix2 n q : S16384x1024.Idx)) (fun n hn => ?_) (fun a _ b _ h => congrFun h 0) (fun j hj => ?_) (fun n _ => rfl)).symm
  · rw [Finset.mem_filter] at hn ⊢
    exact ⟨Finset.mem_univ _, (lands_iff _ _ _ _).mpr ⟨hn.2, rfl⟩⟩
  · rw [Finset.mem_filter] at hj
    obtain ⟨h0, h1⟩ := (lands_iff _ _ _ _).mp hj.2
    refine ⟨j 0, ?_, funext fun a => ?_⟩
    · exact Finset.mem_filter.mpr ⟨Finset.mem_univ (α := Fin 16384) _, h0⟩
    · match a with
      | 0 => rfl
      | 1 => exact h1.symm

/-! ## The reference, by its parts -/

/-- The row numbers of one batch entry (the slice at `o`), in order. -/
def numbers {o : Fin 3 → ℕ} (hs : S2x16x1024.Slices o S1x16x1024) (idx : IVec S2x16x1024 32) : IVec S16384 32 :=
  shapeCast _ (shapeCast _ (extractStridedSlice S1x16x1024 o idx hs) shapeCasts_S1x16x1024_S16x1024) shapeCasts_S16x1024_S16384

/-- The experts' rows of one batch entry, in the same order. -/
def experts {o : Fin 4 → ℕ} (hs : S2x16x1024x1024.Slices o S1x16x1024x1024) (ye : FVec Ideal S2x16x1024x1024 .bf16) : FVec Ideal S16384x1024 .f32 :=
  shapeCast _ (extf .f32 (shapeCast _ (extractStridedSlice S1x16x1024x1024 o ye hs) shapeCasts_S1x16x1024x1024_S16x1024x1024) bitsLt_bf16_f32) shapeCasts_S16x1024x1024_S16384x1024

/-- Row numbers, the negative ones counted from the end. -/
def wrapped (n : IVec S16384 32) : IVec S16384x1 32 :=
  broadcastInDim S16384x1 ![0] bcast_S16384_S16384x1_0 (select (cmpi .slt n (broadcastInDim S16384 ![] bcast_S_S16384 (constantI S_ 32 0#32)))
    (addi n (broadcastInDim S16384 ![] bcast_S_S16384 (constantI S_ 32 8192#32))) n)

/-- Rows added up by number. -/
def scattered (n : IVec S16384 32) (y : FVec Ideal S16384x1024 .f32) : FVec Ideal S1x8192x1024 .f32 :=
  broadcastInDim S1x8192x1024 ![1, 2] bcast_S8192x1024_S1x8192x1024_1_2
    (Host.scatterAdd dims (broadcastInDim S8192x1024 ![] bcast_S_S8192x1024 (constant S_ .f32 0x00000000#32)) (wrapped n) y)

/-- Two batch entries, one after the other, added to the residual. -/
def added (x1 : FVec Ideal S2x8192x1024 .f32) (u v : FVec Ideal S1x8192x1024 .f32) : FVec Ideal S2x8192x1024 .f32 :=
  addf x1 (concatenate S2x8192x1024 0 [⟨S1x8192x1024, u⟩, ⟨S1x8192x1024, v⟩] concatenates_S1x8192x1024_S1x8192x1024_S2x8192x1024_d0)

/-- The normalisation. -/
def normalised (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

theorem res_parts (m : (ℓ : Loc nD τ sig) → Buf (Elt Ideal) ℓ) (c : Dev nD) :
    res_main_v46 m c = normalised (added (m ((c.tc : Thread nD τ).loc main_arg2))
      (scattered (numbers slices_S2x16x1024_S1x16x1024_0_0_0 (m ((c.tc : Thread nD τ).loc main_arg0))) (experts slices_S2x16x1024x1024_S1x16x1024x1024_0_0_0_0 (m ((c.tc : Thread nD τ).loc main_arg1))))
      (scattered (numbers slices_S2x16x1024_S1x16x1024_1_0_0 (m ((c.tc : Thread nD τ).loc main_arg0))) (experts slices_S2x16x1024x1024_S1x16x1024x1024_1_0_0_0 (m ((c.tc : Thread nD τ).loc main_arg1)))))
      (m ((c.tc : Thread nD τ).loc main_arg3)) := rfl

theorem normalised_apply (x : FVec Ideal S2x8192x1024 .f32) (g : FVec Ideal S1024 .f32) (b : Fin 2) (r : Fin 8192) (q : Fin 1024) :
    normalised x g (ix3 b r q) = norm g (fun j => x (ix3 b r j)) q := by
  unfold normalised
  pointwise
  rfl

theorem added_apply (x1 : FVec Ideal S2x8192x1024 .f32) (u v : FVec Ideal S1x8192x1024 .f32) (b : Fin 2) (r : Fin 8192) (q : Fin 1024) :
    added x1 u v (ix3 b r q) = x1 (ix3 b r q) + if b.val = 0 then u (ix3 0 r q) else v (ix3 0 r q) := by
  unfold added
  pointwise
  refine congrArg (x1 (ix3 b r q) + · : EReal → EReal) ?_
  by_cases h : b.val = 0
  · rw [dif_pos (by omega), if_pos h]; exact congrArg (fun z => u (ix3 z r q)) (Subsingleton.elim (α := Fin 1) _ _)
  · rw [dif_neg (by omega), if_neg h]; exact congrArg (fun z => v (ix3 z r q)) (Subsingleton.elim (α := Fin 1) _ _)

theorem numbers_apply {o : Fin 3 → ℕ} (hs : S2x16x1024.Slices o S1x16x1024) (idx : IVec S2x16x1024 32) (b : Fin 2) (ho : o = ![b.val, 0, 0])
    (e : Fin 16) (k : Fin 1024) (h : e.val * 1024 + k.val < 16384) : numbers hs idx (ix1 ⟨e.val * 1024 + k.val, h⟩) = idx (ix3 b e k) := by
  subst ho
  unfold numbers
  pointwise

theorem experts_apply {o : Fin 4 → ℕ} (hs : S2x16x1024x1024.Slices o S1x16x1024x1024) (ye : FVec Ideal S2x16x1024x1024 .bf16) (b : Fin 2) (ho : o = ![b.val, 0, 0, 0])
    (e : Fin 16) (k q : Fin 1024) (h : e.val * 1024 + k.val < 16384) : experts hs ye (ix2 ⟨e.val * 1024 + k.val, h⟩ q) = ye (ix4 b e k q) := by
  subst ho
  unfold experts
  pointwise

theorem scattered_apply (n : IVec S16384 32) (y : FVec Ideal S16384x1024 .f32) (hn : ∀ i, (n i).toNat < 8192) (r : Fin 8192) (q : Fin 1024) :
    scattered n y (ix3 0 r q) = ∑ i : Fin 16384, if (n (ix1 i)).toNat = r.val then y (ix2 i q) else 0 := by
  have hw : ∀ i : Fin 16384, (wrapped n (ix2 i 0)).toInt = (n (ix1 i)).toNat := by
    intro i
    unfold wrapped
    pointwise
    have hi := hn (ix1 i)
    have hs : ¬ (n (ix1 i)).slt 0#32 = true := by
      rw [BitVec.slt_eq_decide]; simp only [decide_eq_true_eq, not_lt]
      rw [BitVec.toInt_eq_toNat_of_lt (x := n (ix1 i)) (by omega)]; exact Int.natCast_nonneg _
    have hc : IntOp.cmpi .slt (n (ix1 i)) 0#32 = 0#1 := by
      simp only [IntOp.cmpi]
      simp [hs]
    rw [hc]
    show (n (ix1 i)).toInt = _
    rw [BitVec.toInt_eq_toNat_of_lt (by omega)]
  have h0 : scattered n y (ix3 0 r q)
      = Host.scatterAdd dims (broadcastInDim S8192x1024 ![] bcast_S_S8192x1024 (constant S_ .f32 0x00000000#32)) (wrapped n) y (ix2 r q) := by
    unfold scattered
    pointwise
  rw [h0, scatter_apply]
  pointwise
  refine Finset.sum_congr rfl fun i _ => ?_
  rw [hw]
  by_cases h : (n (ix1 i)).toNat = r.val
  · rw [if_pos (by rw [h]), if_pos h]
  · rw [if_neg (by omega), if_neg h]

/-- One batch entry's rows, added up by number: those of each expert in turn. -/
theorem scattered_routed {o : Fin 3 → ℕ} {o4 : Fin 4 → ℕ} (hs : S2x16x1024.Slices o S1x16x1024) (hs4 : S2x16x1024x1024.Slices o4 S1x16x1024x1024)
    (idx : IVec S2x16x1024 32) (ye : FVec Ideal S2x16x1024x1024 .bf16) (hi : ∀ (b : Fin 2) (e : Fin 16) (k : Fin 1024), (idx (ix3 b e k)).toNat < 8192)
    (b : Fin 2) (ho : o = ![b.val, 0, 0]) (ho4 : o4 = ![b.val, 0, 0, 0]) (r : Fin 8192) (q : Fin 1024) :
    scattered (numbers hs idx) (experts hs4 ye) (ix3 0 r q) = ∑ e : Fin 16, routed idx ye b e r q := by
  have hlt : ∀ (e : Fin 16) (k : Fin 1024), e.val * 1024 + k.val < 16384 := fun e k => by omega
  rw [scattered_apply _ _ (fun i => ?_), Fin.sum_univ_tiles 16 1024 (by norm_num)]
  · refine Finset.sum_congr rfl fun e _ => Finset.sum_congr rfl fun k _ => ?_
    rw [numbers_apply hs idx b ho e k (hlt e k), experts_apply hs4 ye b ho4 e k q (hlt e k)]
  · have h : (i 0).val < 16384 := (i 0).isLt
    have hi0 : i = ix1 ⟨(⟨(i 0).val / 1024, by omega⟩ : Fin 16).val * 1024 + (⟨(i 0).val % 1024, Nat.mod_lt _ (by norm_num)⟩ : Fin 1024).val, hlt _ _⟩ := by
      funext a
      match a with
      | 0 => exact Fin.ext (by show (i 0).val = (i 0).val / 1024 * 1024 + (i 0).val % 1024; omega)
    rw [hi0, numbers_apply hs idx b ho]; exact hi _ _ _

/-- The reference's result is the function. -/
theorem res_eq (m : (ℓ : Loc nD τ sig) → Buf (Elt Ideal) ℓ) (c : Dev nD)
    (hi : ∀ (b : Fin 2) (e : Fin 16) (k : Fin 1024), (m ((c.tc : Thread nD τ).loc main_arg0) (ix3 b e k) : BitVec 32).toNat < 8192) :
    res_main_v46 m c = result (m ((c.tc : Thread nD τ).loc main_arg0)) (m ((c.tc : Thread nD τ).loc main_arg1))
      (m ((c.tc : Thread nD τ).loc main_arg2)) (m ((c.tc : Thread nD τ).loc main_arg3)) := by
  rw [res_parts]
  funext p
  obtain ⟨b, r, q, rfl⟩ : ∃ b r q, p = ix3 b r q := ⟨p 0, p 1, p 2, by funext a; match a with | 0 => rfl | 1 => rfl | 2 => rfl⟩
  refine (normalised_apply _ _ b r q).trans ?_
  show _ = norm _ (total _ _ _ b r) q
  refine congrArg (norm _ · q) (funext fun j => (added_apply _ _ _ b r j).trans (congrArg (_ + · : EReal → EReal) ?_))
  by_cases h : b.val = 0
  · rw [if_pos h]; exact scattered_routed _ _ _ _ hi b (by rw [h]) (by rw [h]) r j
  · have h1 : b.val = 1 := by omega
    rw [if_neg h]; exact scattered_routed _ _ _ _ hi b (by rw [h1]) (by rw [h1]) r j

end Cert.CombineReferenceIdeal.Hand

end
-- ==== Proof.lean ====
/- The proof of the certificate: the frames of the kernel, of its idealization and of the reference, and the
   equality of their results at the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Body
public import proofs.«01_k».proof.Proof.Gen.First
public import proofs.«01_k».proof.Proof.Gen.FirstIdeal
public import proofs.«01_k».proof.Proof.Gen.FirstIdeal.Frame
public import proofs.«01_k».proof.Proof.Gen.FirstIdeal.Skeleton
public import proofs.«01_k».proof.Proof.Gen.FirstReferenceIdeal
public import proofs.«01_k».proof.Proof.Gen.FirstReferenceIdeal.Run
public import proofs.«01_k».proof.Proof.Gen.Ada
public import proofs.«01_k».proof.Proof.Gen.AdaIdeal
public import proofs.«01_k».proof.Proof.Gen.AdaIdeal.Frame
public import proofs.«01_k».proof.Proof.Gen.AdaIdeal.Skeleton
public import proofs.«01_k».proof.Proof.Gen.AdaReferenceIdeal
public import proofs.«01_k».proof.Proof.Gen.AdaReferenceIdeal.Run
public import proofs.«01_k».proof.Proof.Gen.Combine
public import proofs.«01_k».proof.Proof.Gen.CombineIdeal
public import proofs.«01_k».proof.Proof.Gen.CombineIdeal.Frame
public import proofs.«01_k».proof.Proof.Gen.CombineReferenceIdeal
public import proofs.«01_k».proof.Proof.Gen.CombineReferenceIdeal.Run
public import proofs.«01_k».proof.Proof.Gen.Pre_rows_distinct
public import proofs.«01_k».proof.Proof.Array
public import proofs.«01_k».proof.Proof.RefValue
public import proofs.«01_k».proof.Proof.FirstArray
public import proofs.«01_k».proof.Proof.FirstRef
public import proofs.«01_k».proof.Proof.AdaArray
public import proofs.«01_k».proof.Proof.AdaRef
public import proofs.«01_k».proof.Proof.CombineValue
public import proofs.«01_k».proof.Proof.CombinePre
public import proofs.«01_k».proof.Proof.CombineRef
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts
  Cert.First.Gen.facts Cert.FirstIdeal.Gen.facts Cert.FirstReferenceIdeal.Gen.facts
  Cert.Ada.Gen.facts Cert.AdaIdeal.Gen.facts Cert.AdaReferenceIdeal.Gen.facts
  Cert.Combine.Gen.facts Cert.CombineIdeal.Gen.facts Cert.CombineReferenceIdeal.Gen.facts Cert.Pre_rows_distinct.Gen.facts

/-! ## The printed kernel is the idealization's text

The idealization rewrote nothing: at one instance the two printed programs are the same, so the frame proved of the
idealization's text, at any instance, is the kernel's at `Bits`. -/

section Same

set_option backward.isDefEq.respectTransparency false

/-- The two bodies are one text. -/
theorem body_eq (i : Kernel.grid0.Coords) (a b c d e f g h j k ha hb hc hd he hf hg hh hj hk) :
    Kernel.cc0_experts (F := Bits) i a ha b hb c hc d hd e he f hf g hg h hh j hj k hk
      = KernelIdeal.cc0_experts (F := Bits) i a ha b hb c hc d hd e he f hf g hg h hh j hj k hk := by with_unfolding_all rfl

theorem defs₀_eq : Kernel.defs₀ (F := Bits) = Cert.KernelIdeal.defs₀ := by
  unfold Kernel.defs₀ KernelIdeal.defs₀
  refine congrArg Defs.onTc ?_
  funext l ts
  match l, ts with
  | 0, (t, s) => exact body_eq ..
  | ⟨_ + 1, h⟩, _ => exact absurd h (Nat.not_lt.2 (Nat.le_add_left _ _))

theorem defs_eq : Kernel.defs (F := Bits) = Cert.KernelIdeal.defs := by
  unfold Kernel.defs KernelIdeal.defs
  rw [defs₀_eq]; rfl

/-- The kernel's frame. -/
theorem frame_Kernel : Cert.quiescent_Kernel := fun m ρ _ => by
  rw [defs_eq]
  exact Cert.KernelIdeal.Hand.frame (F := Bits) m ρ

end Same

/-- The idealization's frame. -/
theorem frame_KernelIdeal : Cert.quiescent_KernelIdeal := fun m ρ _ => Cert.KernelIdeal.Hand.frame (F := Ideal) m ρ

/-- The reference's frame: it has no semaphores. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## Equality over the extended reals -/

/-- The idealization's run: its result is the function of the arguments, which are unchanged. -/
theorem run_KernelIdeal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0) = Cert.KernelIdeal.Hand.res m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  have h := Cert.KernelIdeal.Hand.run_main (F := Ideal) m ρ
  have f := Cert.KernelIdeal.Hand.frame (F := Ideal) m ρ
  ⟨fun t ht hf c => ⟨(((h.post t ht hf).1 c).1 6).trans (Cert.KernelIdeal.Hand.final m c), (f.post t ht hf).1 c⟩, h.progress, h.fair⟩

/-- Over the extended reals the kernel's result and the reference's are equal: each is the same function of the arguments. -/
theorem algebraic : Cert.algebraic_KernelIdeal_ReferenceIdeal := by
  intro m ρ m' ρ' _ hagree
  refine ⟨fun c => Cert.KernelIdeal.Hand.res m c, run_KernelIdeal m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Hand.res_eq, h0, h1, h2, h3, h4, h5, h6]

/-! ## The first call -/

section Same

set_option backward.isDefEq.respectTransparency false

/-- The two bodies are one text. -/
theorem first_body_eq (i : First.grid0.Coords) (a b c d e f g h j ha hb hc hd he hf hg hh hj) :
    First.cc0_experts (F := Bits) i a ha b hb c hc d hd e he f hf g hg h hh j hj
      = FirstIdeal.cc0_experts (F := Bits) i a ha b hb c hc d hd e he f hf g hg h hh j hj := by with_unfolding_all rfl

theorem first_defs₀_eq : First.defs₀ (F := Bits) = Cert.FirstIdeal.defs₀ := by
  unfold First.defs₀ FirstIdeal.defs₀
  refine congrArg Defs.onTc ?_
  funext l ts
  match l, ts with
  | 0, (t, s) => exact first_body_eq ..
  | ⟨_ + 1, h⟩, _ => exact absurd h (Nat.not_lt.2 (Nat.le_add_left _ _))

theorem first_defs_eq : First.defs (F := Bits) = Cert.FirstIdeal.defs := by
  unfold First.defs FirstIdeal.defs
  rw [first_defs₀_eq]; rfl

/-- The first call's frame. -/
theorem frame_First : Cert.quiescent_First := fun m ρ _ => by
  rw [first_defs_eq]
  exact Cert.FirstIdeal.Hand.frame (F := Bits) m ρ

end Same

/-- Its idealization's frame. -/
theorem frame_FirstIdeal : Cert.quiescent_FirstIdeal := fun m ρ _ => Cert.FirstIdeal.Hand.frame (F := Ideal) m ρ

/-- Its reference's frame: it has no semaphores. -/
theorem frame_FirstReferenceIdeal : Cert.quiescent_FirstReferenceIdeal := fun m ρ _ =>
  (θ_run Cert.FirstReferenceIdeal.defs _ _).mono (fun r h => ⟨fun c => (h c).2, sem_eq_zero_of_no_sems (by decide) r.2⟩)
    (Cert.FirstReferenceIdeal.Value.run (F := Ideal) m ρ)

/-- The first call's run: the rows sliced off its array are the function of the arguments, which are unchanged. -/
theorem run_FirstIdeal (m : (ℓ : Loc Cert.FirstIdeal.nD Cert.FirstIdeal.τ Cert.FirstIdeal.sig) → Buf (Elt Ideal) ℓ)
    (ρ : Dev Cert.FirstIdeal.nD → PrngReg) :
    θ_run (Cert.FirstIdeal.defs (F := Ideal)) (onTc (τ := Cert.FirstIdeal.τ) (Cert.FirstIdeal.main (F := Ideal))) ⟨m, fun _ => 0, ρ⟩
      (fun r => ∀ c : Dev Cert.FirstIdeal.nD,
        r.2.mem ((c.tc : Thread Cert.FirstIdeal.nD Cert.FirstIdeal.τ).loc Cert.FirstIdeal.main_v1) = Cert.FirstIdeal.Hand.res m c
        ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
        ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
        ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
        ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
        ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
        ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)) :=
  have h := Cert.FirstIdeal.Hand.run_main (F := Ideal) m ρ
  have f := Cert.FirstIdeal.Hand.frame (F := Ideal) m ρ
  ⟨fun t ht hf c => ⟨(((h.post t ht hf).1 c).2 Cert.FirstIdeal.main_v1 (by decide)).trans (Cert.FirstIdeal.Hand.final m c), (f.post t ht hf).1 c⟩,
    h.progress, h.fair⟩

/-- Over the extended reals the first call's result and its reference's are equal: each is the same function of the arguments. -/
theorem first_algebraic : Cert.algebraic_FirstIdeal_FirstReferenceIdeal := by
  intro m ρ m' ρ' _ hagree
  refine ⟨fun c => Cert.FirstIdeal.Hand.res m c, run_FirstIdeal m ρ, ?_⟩
  refine (θ_run Cert.FirstReferenceIdeal.defs _ _).mono (fun _ h c => ⟨(h c).1.trans ?_, (h c).2⟩)
    (Cert.FirstReferenceIdeal.Value.run (F := Ideal) m' ρ')
  obtain ⟨h0, h1, h2, h3, h4, h5⟩ := hagree c
  refine Eq.trans (b := Cert.FirstReferenceIdeal.Hand.refRows m' c) rfl ?_
  rw [Cert.FirstReferenceIdeal.Hand.res_eq, h0, h1, h2, h3, h4, h5]

/-! ## The modulation call -/

section Same

set_option backward.isDefEq.respectTransparency false

/-- The two bodies are one text. -/
theorem ada_body_eq (i : Ada.grid0.Coords) (a b c d e f g h j k l n ha hb hc hd he hf hg hh hj hk hl hn) :
    Ada.cc0_ada (F := Bits) i a ha b hb c hc d hd e he f hf g hg h hh j hj k hk l hl n hn
      = AdaIdeal.cc0_ada (F := Bits) i a ha b hb c hc d hd e he f hf g hg h hh j hj k hk l hl n hn := by with_unfolding_all rfl

theorem ada_defs₀_eq : Ada.defs₀ (F := Bits) = Cert.AdaIdeal.defs₀ := by
  unfold Ada.defs₀ AdaIdeal.defs₀
  refine congrArg Defs.onTc ?_
  funext l ts
  match l, ts with
  | 0, (t, s) => exact ada_body_eq ..
  | ⟨_ + 1, h⟩, _ => exact absurd h (Nat.not_lt.2 (Nat.le_add_left _ _))

theorem ada_defs_eq : Ada.defs (F := Bits) = Cert.AdaIdeal.defs := by
  unfold Ada.defs AdaIdeal.defs
  rw [ada_defs₀_eq]; rfl

/-- The modulation call's frame. -/
theorem frame_Ada : Cert.quiescent_Ada := fun m ρ _ => by
  rw [ada_defs_eq]
  exact Cert.AdaIdeal.Gen.frame (F := Bits) m ρ

end Same

/-- Its idealization's frame. -/
theorem frame_AdaIdeal : Cert.quiescent_AdaIdeal := fun m ρ _ => Cert.AdaIdeal.Gen.frame (F := Ideal) m ρ

/-- Its reference's frame: it has no semaphores. -/
theorem frame_AdaReferenceIdeal : Cert.quiescent_AdaReferenceIdeal := fun m ρ _ =>
  (θ_run Cert.AdaReferenceIdeal.defs _ _).mono (fun r h => ⟨fun c => (h c).2.2, sem_eq_zero_of_no_sems (by decide) r.2⟩)
    (Cert.AdaReferenceIdeal.Value.run (F := Ideal) m ρ)

/-- The modulation call's run: its two results are the functions of the arguments, which are unchanged. -/
theorem run_AdaIdeal (m : (ℓ : Loc Cert.AdaIdeal.nD Cert.AdaIdeal.τ Cert.AdaIdeal.sig) → Buf (Elt Ideal) ℓ)
    (ρ : Dev Cert.AdaIdeal.nD → PrngReg) :
    θ_run (Cert.AdaIdeal.defs (F := Ideal)) (onTc (τ := Cert.AdaIdeal.τ) (Cert.AdaIdeal.main (F := Ideal))) ⟨m, fun _ => 0, ρ⟩
      (fun r => ∀ c : Dev Cert.AdaIdeal.nD,
        r.2.mem ((c.tc : Thread Cert.AdaIdeal.nD Cert.AdaIdeal.τ).loc Cert.AdaIdeal.main_v4) = Cert.AdaIdeal.Hand.mods m c
        ∧ r.2.mem ((c.tc : Thread Cert.AdaIdeal.nD Cert.AdaIdeal.τ).loc Cert.AdaIdeal.main_v3_1)
          = Cert.Modulation.columns (m ((c.tc : Thread Cert.AdaIdeal.nD Cert.AdaIdeal.τ).loc Cert.AdaIdeal.main_arg3))
        ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
        ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
        ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
        ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)) :=
  have h := Cert.AdaIdeal.Gen.run_main (F := Ideal) m ρ
  have f := Cert.AdaIdeal.Gen.frame (F := Ideal) m ρ
  ⟨fun t ht hf c => ⟨((h.post t ht hf c).2 Cert.AdaIdeal.main_v4 (by decide)).trans (Cert.AdaIdeal.Hand.final_mods m c),
    ((h.post t ht hf c).1 11).trans (Cert.AdaIdeal.Hand.final_cast m c), (f.post t ht hf).1 c⟩, h.progress, h.fair⟩

/-- Over the extended reals the modulation call's two results and its reference's are equal: each is the same function of the arguments. -/
theorem ada_algebraic : Cert.algebraic_AdaIdeal_AdaReferenceIdeal := by
  intro m ρ m' ρ' _ hagree
  refine ⟨fun c => Cert.AdaIdeal.Hand.mods m c,
    fun c => Cert.Modulation.columns (m ((c.tc : Thread Cert.AdaIdeal.nD Cert.AdaIdeal.τ).loc Cert.AdaIdeal.main_arg3)), run_AdaIdeal m ρ, ?_⟩
  refine (θ_run Cert.AdaReferenceIdeal.defs _ _).mono (fun _ h c => ⟨(h c).1.trans ?_, (h c).2.1.trans ?_, (h c).2.2⟩)
    (Cert.AdaReferenceIdeal.Value.run (F := Ideal) m' ρ')
  all_goals obtain ⟨h0, h1, h2, h3⟩ := hagree c
  · rw [h0, h1, h2]; exact Cert.AdaReferenceIdeal.Hand.refMod_eq _ _ _
  · rw [h3]; exact Cert.AdaReferenceIdeal.Hand.refCast_eq _

/-! ## The combining call -/

section Same

set_option backward.isDefEq.respectTransparency false

/-- The two bodies are one text. -/
theorem combine_body_eq (i : Combine.grid0.Coords) (a b c d e f ha hb hc hd he hf sems) :
    Combine.cc0_combine (F := Bits) i a ha b hb c hc d hd e he f hf sems
      = CombineIdeal.cc0_combine (F := Bits) i a ha b hb c hc d hd e he f hf sems := by with_unfolding_all rfl

theorem combine_defs₀_eq : Combine.defs₀ (F := Bits) = Cert.CombineIdeal.defs₀ := by
  unfold Combine.defs₀ CombineIdeal.defs₀
  refine congrArg Defs.onTc ?_
  funext l ts
  match l, ts with
  | 0, (t, s) => exact combine_body_eq ..
  | ⟨_ + 1, h⟩, _ => exact absurd h (Nat.not_lt.2 (Nat.le_add_left _ _))

theorem combine_defs_eq : Combine.defs (F := Bits) = Cert.CombineIdeal.defs := by
  unfold Combine.defs CombineIdeal.defs
  rw [combine_defs₀_eq]; rfl

/-- The combining kernel's frame, under the precondition. -/
theorem frame_Combine : Cert.quiescent_Combine := fun m ρ hm => by
  have hr := fun c => Combined.rows_of_pre _ _ _ _ (hm c)
  rw [combine_defs_eq]
  exact (θ_run Cert.CombineIdeal.defs _ _).mono (fun r h => ⟨fun c => (h.1 c).2, h.2⟩)
    (Cert.CombineIdeal.Hand.run_value (F := Bits) m ρ (Cert.CombineIdeal.Hand.rowsOk_of m (fun c => (hr c).1) (fun c => (hr c).2)))

end Same

/-- The precondition gives the body what it needs. -/
theorem combine_rows (m : (ℓ : Loc Cert.CombineIdeal.nD Cert.CombineIdeal.τ Cert.CombineIdeal.sig) → Buf (Elt Ideal) ℓ)
    (hm : Cert.Pre_CombineIdeal m) : Cert.CombineIdeal.Hand.RowsOk m :=
  have hr := fun c => Combined.rows_of_pre _ _ _ _ (hm c)
  Cert.CombineIdeal.Hand.rowsOk_of m (fun c => (hr c).1) (fun c => (hr c).2)

/-- The combining kernel's idealization's frame, under the precondition. -/
theorem frame_CombineIdeal : Cert.quiescent_CombineIdeal := fun m ρ hm =>
  (θ_run Cert.CombineIdeal.defs _ _).mono (fun _ h => ⟨fun c => (h.1 c).2, h.2⟩)
    (Cert.CombineIdeal.Hand.run_value (F := Ideal) m ρ (combine_rows m hm))

/-- Its reference's frame: it has no semaphores. -/
theorem frame_CombineReferenceIdeal : Cert.quiescent_CombineReferenceIdeal := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

/-- The same where the row numbers satisfy the precondition. -/
theorem frame_CombineReferenceIdeal_pre : Cert.quiescent_CombineReferenceIdeal_pre_rows_distinct := fun m ρ _ =>
  frame_CombineReferenceIdeal m ρ trivial

/-- Over the extended reals the combining kernel's result and its reference's are equal, row numbers being as the
    precondition says: each is the same function of the arguments. -/
theorem combine_algebraic : Cert.algebraic_CombineIdeal_CombineReferenceIdeal := by
  intro m ρ m' ρ' hm hagree
  refine ⟨fun c => Cert.CombineIdeal.Hand.outs m c 32, ?_, ?_⟩
  · exact (θ_run Cert.CombineIdeal.defs _ _).mono (fun _ h => h.1)
      (Cert.CombineIdeal.Hand.run_value (F := Ideal) m ρ (combine_rows m hm))
  · refine (θ_run Cert.CombineReferenceIdeal.defs _ _).mono (fun _ h c => ⟨(h c).1.trans ?_, (h c).2⟩)
      (Cert.CombineReferenceIdeal.Value.run (F := Ideal) m' ρ')
    obtain ⟨h0, h1, h2, h3⟩ := hagree c
    refine Eq.trans ?_ (Cert.CombineIdeal.Hand.outs_eq m c).symm
    rw [Cert.CombineReferenceIdeal.Hand.res_eq m' c (by rw [h0]; exact (Combined.rows_of_pre _ _ _ _ (hm c)).1), h0, h1, h2, h3]

theorem claim : Cert.Claim := ⟨Cert.Kernel.Gen.facts, Cert.KernelIdeal.Gen.facts, Cert.ReferenceIdeal.Gen.facts,
  Cert.First.Gen.facts, Cert.FirstIdeal.Gen.facts, Cert.FirstReferenceIdeal.Gen.facts,
  Cert.Ada.Gen.facts, Cert.AdaIdeal.Gen.facts, Cert.AdaReferenceIdeal.Gen.facts,
  Cert.Combine.Gen.facts, Cert.CombineIdeal.Gen.facts, Cert.CombineReferenceIdeal.Gen.facts, Cert.Pre_rows_distinct.Gen.facts,
  frame_Kernel, frame_KernelIdeal, frame_ReferenceIdeal, frame_First, frame_FirstIdeal, frame_FirstReferenceIdeal,
  frame_Ada, frame_AdaIdeal, frame_AdaReferenceIdeal,
  frame_Combine, frame_CombineIdeal, frame_CombineReferenceIdeal, frame_CombineReferenceIdeal_pre, trivial, algebraic,
  trivial, first_algebraic, trivial, ada_algebraic, trivial, combine_algebraic⟩

end Cert.Proof

end
